-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x2048 : Shape := ⟨2, ![16384, 2048]⟩
abbrev S16384 : Shape := ⟨1, ![16384]⟩
abbrev S2048x1024 : Shape := ⟨2, ![2048, 1024]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x2048 .f32) (main_arg1 : IVec S16384 32) (main_arg2 : IVec S2048x1024 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 2048#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x2048 : Shape := ⟨2, ![16384, 2048]⟩
abbrev S16384 : Shape := ⟨1, ![16384]⟩
abbrev S2048x1024 : Shape := ⟨2, ![2048, 1024]⟩
abbrev S32x16 : Shape := ⟨2, ![32, 16]⟩
abbrev S512 : Shape := ⟨1, ![512]⟩
abbrev S8x2048 : Shape := ⟨2, ![8, 2048]⟩
abbrev S8x1024 : Shape := ⟨2, ![8, 1024]⟩
abbrev S16 : Shape := ⟨1, ![16]⟩
abbrev S_ : Shape := ⟨0, ![]⟩
abbrev S8x128 : Shape := ⟨2, ![8, 128]⟩
abbrev S8 : Shape := ⟨1, ![8]⟩
abbrev S2048x128 : Shape := ⟨2, ![2048, 128]⟩
abbrev S1x16 : Shape := ⟨2, ![1, 16]⟩

abbrev nBuf : Table → Nat
  | .hbm => 8
  | .local .scVector .vmem => 12
  | _ => 0

abbrev bufTy : (tb : Table) → Fin (nBuf tb) → BufTy
  | .hbm, ⟨0, _⟩ => ⟨S16384x2048, .f32⟩
  | .hbm, ⟨1, _⟩ => ⟨S16384, .i32⟩
  | .hbm, ⟨2, _⟩ => ⟨S2048x1024, .i32⟩
  | .hbm, ⟨3, _⟩ => ⟨S32x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local .scVector .vmem, ⟨0, _⟩ => ⟨S512, .i32⟩
  | .local .scVector .vmem, ⟨1, _⟩ => ⟨S8x2048, .f32⟩
  | .local .scVector .vmem, ⟨2, _⟩ => ⟨S8x2048, .f32⟩
  | .local .scVector .vmem, ⟨3, _⟩ => ⟨S8x2048, .f32⟩
  | .local .scVector .vmem, ⟨4, _⟩ => ⟨S8x2048, .f32⟩
  | .local .scVector .vmem, ⟨5, _⟩ => ⟨S8x2048, .f32⟩
  | .local .scVector .vmem, ⟨6, _⟩ => ⟨S8x1024, .i32⟩
  | .local .scVector .vmem, ⟨7, _⟩ => ⟨S8x1024, .i32⟩
  | .local .scVector .vmem, ⟨8, _⟩ => ⟨S8x1024, .i32⟩
  | .local .scVector .vmem, ⟨9, _⟩ => ⟨S8x1024, .i32⟩
  | .local .scVector .vmem, ⟨10, _⟩ => ⟨S8x1024, .i32⟩
  | .local .scVector .vmem, ⟨11, _⟩ => ⟨S16, .f32⟩
  | _, _ => ⟨S16384x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]
def k0_off2_at (r : Fin 9) : BitVec 32 :=
  if r.val < 4 then
    if r.val < 2 then
      if r.val < 1 then
        0#32
      else
        8#32
    else
      if r.val < 3 then
        16#32
      else
        24#32
  else
    if r.val < 6 then
      if r.val < 5 then
        32#32
      else
        480#32
    else
      if r.val < 7 then
        488#32
      else
        if r.val < 8 then
          496#32
        else
          504#32
@[reducible] def k0_t1_loop : Scf.Loop 32 :=
  let c0_i32_211 : BitVec 32 := 0#32
  let c11_i32 : BitVec 32 := 11#32
  let v146 : BitVec 32 := Scalar.addi c0_i32_211 c11_i32
  let c1_i32 : BitVec 32 := 1#32
  ⟨c0_i32_211, v146, c1_i32⟩
@[reducible] def k0_t2_loop : Scf.Loop 32 :=
  let c0_i32_858 : BitVec 32 := 0#32
  let c8_i32_859 : BitVec 32 := 8#32
  let v544 : BitVec 32 := Scalar.addi c0_i32_858 c8_i32_859
  let c1_i32_860 : BitVec 32 := 1#32
  ⟨c0_i32_858, v544, c1_i32_860⟩
@[reducible] def k0_t3_loop : Scf.Loop 32 :=
  let c0_i32_1280 : BitVec 32 := 0#32
  let c8_i32_1281 : BitVec 32 := 8#32
  let v851 : BitVec 32 := Scalar.addi c0_i32_1280 c8_i32_1281
  let c1_i32_1282 : BitVec 32 := 1#32
  ⟨c0_i32_1280, v851, c1_i32_1282⟩
def k0_off3 (k0_t2 : Fin k0_t2_loop.trips) (k0_t3 : Fin k0_t3_loop.trips) (c0_i32_1285 : BitVec 32) : Fin 2 → Nat :=
  let c0_i32_858 : BitVec 32 := 0#32
  let c1_i32_860 : BitVec 32 := 1#32
  let arg37 : BitVec 32 := Scf.iv c0_i32_858 c1_i32_860 k0_t2
  let v856 : Index := Scalar.indexCast arg37
  let c0_i32_1280 : BitVec 32 := 0#32
  let c1_i32_1282 : BitVec 32 := 1#32
  let arg46 : BitVec 32 := Scf.iv c0_i32_1280 c1_i32_1282 k0_t3
  let c8_i32_1284 : BitVec 32 := 8#32
  let v853 : BitVec 32 := Scalar.muli arg46 c8_i32_1284
  let v854 : BitVec 32 := Scalar.addi v853 c0_i32_1285
  let c16_i32_1286 : BitVec 32 := 16#32
  let v855 : BitVec 32 := Scalar.muli v854 c16_i32_1286
  let v857 : Index := Scalar.indexCast v855
  ![v856.toNat, v857.toNat]
def k0_off4 (k0_t2 : Fin k0_t2_loop.trips) (k0_t3 : Fin k0_t3_loop.trips) (c0_i32_1285 : BitVec 32) : Fin 2 → Nat :=
  let c0_i32_858 : BitVec 32 := 0#32
  let c1_i32_860 : BitVec 32 := 1#32
  let arg37 : BitVec 32 := Scf.iv c0_i32_858 c1_i32_860 k0_t2
  let v861 : Index := Scalar.indexCast arg37
  let c1024_i32 : BitVec 32 := 1024#32
  let c0_i32_1280 : BitVec 32 := 0#32
  let c1_i32_1282 : BitVec 32 := 1#32
  let arg46 : BitVec 32 := Scf.iv c0_i32_1280 c1_i32_1282 k0_t3
  let c8_i32_1284 : BitVec 32 := 8#32
  let v853 : BitVec 32 := Scalar.muli arg46 c8_i32_1284
  let v854 : BitVec 32 := Scalar.addi v853 c0_i32_1285
  let c16_i32_1287 : BitVec 32 := 16#32
  let v859 : BitVec 32 := Scalar.muli v854 c16_i32_1287
  let v860 : BitVec 32 := Scalar.addi c1024_i32 v859
  let v862 : Index := Scalar.indexCast v860
  ![v861.toNat, v862.toNat]
def k0_off5 (k0_t2 : Fin k0_t2_loop.trips) (k0_t3 : Fin k0_t3_loop.trips) (c0_i32_1285 : BitVec 32) : Fin 2 → Nat :=
  let c0_i32_858 : BitVec 32 := 0#32
  let c1_i32_860 : BitVec 32 := 1#32
  let arg37 : BitVec 32 := Scf.iv c0_i32_858 c1_i32_860 k0_t2
  let v865 : Index := Scalar.indexCast arg37
  let c0_i32_1280 : BitVec 32 := 0#32
  let c1_i32_1282 : BitVec 32 := 1#32
  let arg46 : BitVec 32 := Scf.iv c0_i32_1280 c1_i32_1282 k0_t3
  let c8_i32_1284 : BitVec 32 := 8#32
  let v853 : BitVec 32 := Scalar.muli arg46 c8_i32_1284
  let v854 : BitVec 32 := Scalar.addi v853 c0_i32_1285
  let c16_i32_1288 : BitVec 32 := 16#32
  let v864 : BitVec 32 := Scalar.muli v854 c16_i32_1288
  let v866 : Index := Scalar.indexCast v864
  ![v865.toNat, v866.toNat]
def k0_off6 (i : grid0.Coords) (k0_t1 : Fin k0_t1_loop.trips) (c0_i32_813 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_211 : BitVec 32 := 0#32
  let c1_i32 : BitVec 32 := 1#32
  let arg28 : BitVec 32 := Scf.iv c0_i32_211 c1_i32 k0_t1
  let c5_i32 : BitVec 32 := 5#32
  let v516 : BitVec 32 := Scalar.muli arg28 c5_i32
  let v517 : BitVec 32 := Scalar.addi v516 c0_i32_813
  let c5_i32_862 : BitVec 32 := 5#32
  let v546 : BitVec 32 := Scalar.addi v517 c5_i32_862
  let c8_i32_863 : BitVec 32 := 8#32
  let v547 : BitVec 32 := Scalar.muli v546 c8_i32_863
  let v548 : BitVec 32 := Scalar.addi v2 v547
  let c0_i32_864 : BitVec 32 := 0#32
  ![v548.toNat, 0]
def k0_off7 (k0_t1 : Fin k0_t1_loop.trips) (c0_i32_813 : BitVec 32) : Fin 1 → Nat :=
  let c0_i32_211 : BitVec 32 := 0#32
  let c1_i32 : BitVec 32 := 1#32
  let arg28 : BitVec 32 := Scf.iv c0_i32_211 c1_i32 k0_t1
  let c5_i32 : BitVec 32 := 5#32
  let v516 : BitVec 32 := Scalar.muli arg28 c5_i32
  let v517 : BitVec 32 := Scalar.addi v516 c0_i32_813
  let c5_i32_862 : BitVec 32 := 5#32
  let v546 : BitVec 32 := Scalar.addi v517 c5_i32_862
  let c8_i32_866 : BitVec 32 := 8#32
  let v551 : BitVec 32 := Scalar.muli v546 c8_i32_866
  ![v551.toNat]
@[reducible] def k0_t4_loop : Scf.Loop 32 :=
  let c0_i32_952 : BitVec 32 := 0#32
  let c8_i32_953 : BitVec 32 := 8#32
  let v611 : BitVec 32 := Scalar.addi c0_i32_952 c8_i32_953
  let c1_i32_954 : BitVec 32 := 1#32
  ⟨c0_i32_952, v611, c1_i32_954⟩
@[reducible] def k0_t5_loop : Scf.Loop 32 :=
  let c0_i32_1280 : BitVec 32 := 0#32
  let c8_i32_1281 : BitVec 32 := 8#32
  let v851 : BitVec 32 := Scalar.addi c0_i32_1280 c8_i32_1281
  let c1_i32_1282 : BitVec 32 := 1#32
  ⟨c0_i32_1280, v851, c1_i32_1282⟩
def k0_off8 (k0_t4 : Fin k0_t4_loop.trips) (k0_t5 : Fin k0_t5_loop.trips) (c0_i32_1285 : BitVec 32) : Fin 2 → Nat :=
  let c0_i32_952 : BitVec 32 := 0#32
  let c1_i32_954 : BitVec 32 := 1#32
  let arg37 : BitVec 32 := Scf.iv c0_i32_952 c1_i32_954 k0_t4
  let v856 : Index := Scalar.indexCast arg37
  let c0_i32_1280 : BitVec 32 := 0#32
  let c1_i32_1282 : BitVec 32 := 1#32
  let arg46 : BitVec 32 := Scf.iv c0_i32_1280 c1_i32_1282 k0_t5
  let c8_i32_1284 : BitVec 32 := 8#32
  let v853 : BitVec 32 := Scalar.muli arg46 c8_i32_1284
  let v854 : BitVec 32 := Scalar.addi v853 c0_i32_1285
  let c16_i32_1286 : BitVec 32 := 16#32
  let v855 : BitVec 32 := Scalar.muli v854 c16_i32_1286
  let v857 : Index := Scalar.indexCast v855
  ![v856.toNat, v857.toNat]
def k0_off9 (k0_t4 : Fin k0_t4_loop.trips) (k0_t5 : Fin k0_t5_loop.trips) (c0_i32_1285 : BitVec 32) : Fin 2 → Nat :=
  let c0_i32_952 : BitVec 32 := 0#32
  let c1_i32_954 : BitVec 32 := 1#32
  let arg37 : BitVec 32 := Scf.iv c0_i32_952 c1_i32_954 k0_t4
  let v861 : Index := Scalar.indexCast arg37
  let c1024_i32 : BitVec 32 := 1024#32
  let c0_i32_1280 : BitVec 32 := 0#32
  let c1_i32_1282 : BitVec 32 := 1#32
  let arg46 : BitVec 32 := Scf.iv c0_i32_1280 c1_i32_1282 k0_t5
  let c8_i32_1284 : BitVec 32 := 8#32
  let v853 : BitVec 32 := Scalar.muli arg46 c8_i32_1284
  let v854 : BitVec 32 := Scalar.addi v853 c0_i32_1285
  let c16_i32_1287 : BitVec 32 := 16#32
  let v859 : BitVec 32 := Scalar.muli v854 c16_i32_1287
  let v860 : BitVec 32 := Scalar.addi c1024_i32 v859
  let v862 : Index := Scalar.indexCast v860
  ![v861.toNat, v862.toNat]
def k0_off10 (k0_t4 : Fin k0_t4_loop.trips) (k0_t5 : Fin k0_t5_loop.trips) (c0_i32_1285 : BitVec 32) : Fin 2 → Nat :=
  let c0_i32_952 : BitVec 32 := 0#32
  let c1_i32_954 : BitVec 32 := 1#32
  let arg37 : BitVec 32 := Scf.iv c0_i32_952 c1_i32_954 k0_t4
  let v865 : Index := Scalar.indexCast arg37
  let c0_i32_1280 : BitVec 32 := 0#32
  let c1_i32_1282 : BitVec 32 := 1#32
  let arg46 : BitVec 32 := Scf.iv c0_i32_1280 c1_i32_1282 k0_t5
  let c8_i32_1284 : BitVec 32 := 8#32
  let v853 : BitVec 32 := Scalar.muli arg46 c8_i32_1284
  let v854 : BitVec 32 := Scalar.addi v853 c0_i32_1285
  let c16_i32_1288 : BitVec 32 := 16#32
  let v864 : BitVec 32 := Scalar.muli v854 c16_i32_1288
  let v866 : Index := Scalar.indexCast v864
  ![v865.toNat, v866.toNat]
@[reducible] def k0_t6_loop : Scf.Loop 32 :=
  let c0_i32_1046 : BitVec 32 := 0#32
  let c8_i32_1047 : BitVec 32 := 8#32
  let v678 : BitVec 32 := Scalar.addi c0_i32_1046 c8_i32_1047
  let c1_i32_1048 : BitVec 32 := 1#32
  ⟨c0_i32_1046, v678, c1_i32_1048⟩
@[reducible] def k0_t7_loop : Scf.Loop 32 :=
  let c0_i32_1280 : BitVec 32 := 0#32
  let c8_i32_1281 : BitVec 32 := 8#32
  let v851 : BitVec 32 := Scalar.addi c0_i32_1280 c8_i32_1281
  let c1_i32_1282 : BitVec 32 := 1#32
  ⟨c0_i32_1280, v851, c1_i32_1282⟩
def k0_off11 (k0_t6 : Fin k0_t6_loop.trips) (k0_t7 : Fin k0_t7_loop.trips) (c0_i32_1285 : BitVec 32) : Fin 2 → Nat :=
  let c0_i32_1046 : BitVec 32 := 0#32
  let c1_i32_1048 : BitVec 32 := 1#32
  let arg37 : BitVec 32 := Scf.iv c0_i32_1046 c1_i32_1048 k0_t6
  let v856 : Index := Scalar.indexCast arg37
  let c0_i32_1280 : BitVec 32 := 0#32
  let c1_i32_1282 : BitVec 32 := 1#32
  let arg46 : BitVec 32 := Scf.iv c0_i32_1280 c1_i32_1282 k0_t7
  let c8_i32_1284 : BitVec 32 := 8#32
  let v853 : BitVec 32 := Scalar.muli arg46 c8_i32_1284
  let v854 : BitVec 32 := Scalar.addi v853 c0_i32_1285
  let c16_i32_1286 : BitVec 32 := 16#32
  let v855 : BitVec 32 := Scalar.muli v854 c16_i32_1286
  let v857 : Index := Scalar.indexCast v855
  ![v856.toNat, v857.toNat]
def k0_off12 (k0_t6 : Fin k0_t6_loop.trips) (k0_t7 : Fin k0_t7_loop.trips) (c0_i32_1285 : BitVec 32) : Fin 2 → Nat :=
  let c0_i32_1046 : BitVec 32 := 0#32
  let c1_i32_1048 : BitVec 32 := 1#32
  let arg37 : BitVec 32 := Scf.iv c0_i32_1046 c1_i32_1048 k0_t6
  let v861 : Index := Scalar.indexCast arg37
  let c1024_i32 : BitVec 32 := 1024#32
  let c0_i32_1280 : BitVec 32 := 0#32
  let c1_i32_1282 : BitVec 32 := 1#32
  let arg46 : BitVec 32 := Scf.iv c0_i32_1280 c1_i32_1282 k0_t7
  let c8_i32_1284 : BitVec 32 := 8#32
  let v853 : BitVec 32 := Scalar.muli arg46 c8_i32_1284
  let v854 : BitVec 32 := Scalar.addi v853 c0_i32_1285
  let c16_i32_1287 : BitVec 32 := 16#32
  let v859 : BitVec 32 := Scalar.muli v854 c16_i32_1287
  let v860 : BitVec 32 := Scalar.addi c1024_i32 v859
  let v862 : Index := Scalar.indexCast v860
  ![v861.toNat, v862.toNat]
def k0_off13 (k0_t6 : Fin k0_t6_loop.trips) (k0_t7 : Fin k0_t7_loop.trips) (c0_i32_1285 : BitVec 32) : Fin 2 → Nat :=
  let c0_i32_1046 : BitVec 32 := 0#32
  let c1_i32_1048 : BitVec 32 := 1#32
  let arg37 : BitVec 32 := Scf.iv c0_i32_1046 c1_i32_1048 k0_t6
  let v865 : Index := Scalar.indexCast arg37
  let c0_i32_1280 : BitVec 32 := 0#32
  let c1_i32_1282 : BitVec 32 := 1#32
  let arg46 : BitVec 32 := Scf.iv c0_i32_1280 c1_i32_1282 k0_t7
  let c8_i32_1284 : BitVec 32 := 8#32
  let v853 : BitVec 32 := Scalar.muli arg46 c8_i32_1284
  let v854 : BitVec 32 := Scalar.addi v853 c0_i32_1285
  let c16_i32_1288 : BitVec 32 := 16#32
  let v864 : BitVec 32 := Scalar.muli v854 c16_i32_1288
  let v866 : Index := Scalar.indexCast v864
  ![v865.toNat, v866.toNat]
@[reducible] def k0_t8_loop : Scf.Loop 32 :=
  let c0_i32_1139 : BitVec 32 := 0#32
  let c8_i32_1140 : BitVec 32 := 8#32
  let v745 : BitVec 32 := Scalar.addi c0_i32_1139 c8_i32_1140
  let c1_i32_1141 : BitVec 32 := 1#32
  ⟨c0_i32_1139, v745, c1_i32_1141⟩
@[reducible] def k0_t9_loop : Scf.Loop 32 :=
  let c0_i32_1280 : BitVec 32 := 0#32
  let c8_i32_1281 : BitVec 32 := 8#32
  let v851 : BitVec 32 := Scalar.addi c0_i32_1280 c8_i32_1281
  let c1_i32_1282 : BitVec 32 := 1#32
  ⟨c0_i32_1280, v851, c1_i32_1282⟩
def k0_off14 (k0_t8 : Fin k0_t8_loop.trips) (k0_t9 : Fin k0_t9_loop.trips) (c0_i32_1285 : BitVec 32) : Fin 2 → Nat :=
  let c0_i32_1139 : BitVec 32 := 0#32
  let c1_i32_1141 : BitVec 32 := 1#32
  let arg37 : BitVec 32 := Scf.iv c0_i32_1139 c1_i32_1141 k0_t8
  let v856 : Index := Scalar.indexCast arg37
  let c0_i32_1280 : BitVec 32 := 0#32
  let c1_i32_1282 : BitVec 32 := 1#32
  let arg46 : BitVec 32 := Scf.iv c0_i32_1280 c1_i32_1282 k0_t9
  let c8_i32_1284 : BitVec 32 := 8#32
  let v853 : BitVec 32 := Scalar.muli arg46 c8_i32_1284
  let v854 : BitVec 32 := Scalar.addi v853 c0_i32_1285
  let c16_i32_1286 : BitVec 32 := 16#32
  let v855 : BitVec 32 := Scalar.muli v854 c16_i32_1286
  let v857 : Index := Scalar.indexCast v855
  ![v856.toNat, v857.toNat]
def k0_off15 (k0_t8 : Fin k0_t8_loop.trips) (k0_t9 : Fin k0_t9_loop.trips) (c0_i32_1285 : BitVec 32) : Fin 2 → Nat :=
  let c0_i32_1139 : BitVec 32 := 0#32
  let c1_i32_1141 : BitVec 32 := 1#32
  let arg37 : BitVec 32 := Scf.iv c0_i32_1139 c1_i32_1141 k0_t8
  let v861 : Index := Scalar.indexCast arg37
  let c1024_i32 : BitVec 32 := 1024#32
  let c0_i32_1280 : BitVec 32 := 0#32
  let c1_i32_1282 : BitVec 32 := 1#32
  let arg46 : BitVec 32 := Scf.iv c0_i32_1280 c1_i32_1282 k0_t9
  let c8_i32_1284 : BitVec 32 := 8#32
  let v853 : BitVec 32 := Scalar.muli arg46 c8_i32_1284
  let v854 : BitVec 32 := Scalar.addi v853 c0_i32_1285
  let c16_i32_1287 : BitVec 32 := 16#32
  let v859 : BitVec 32 := Scalar.muli v854 c16_i32_1287
  let v860 : BitVec 32 := Scalar.addi c1024_i32 v859
  let v862 : Index := Scalar.indexCast v860
  ![v861.toNat, v862.toNat]
def k0_off16 (k0_t8 : Fin k0_t8_loop.trips) (k0_t9 : Fin k0_t9_loop.trips) (c0_i32_1285 : BitVec 32) : Fin 2 → Nat :=
  let c0_i32_1139 : BitVec 32 := 0#32
  let c1_i32_1141 : BitVec 32 := 1#32
  let arg37 : BitVec 32 := Scf.iv c0_i32_1139 c1_i32_1141 k0_t8
  let v865 : Index := Scalar.indexCast arg37
  let c0_i32_1280 : BitVec 32 := 0#32
  let c1_i32_1282 : BitVec 32 := 1#32
  let arg46 : BitVec 32 := Scf.iv c0_i32_1280 c1_i32_1282 k0_t9
  let c8_i32_1284 : BitVec 32 := 8#32
  let v853 : BitVec 32 := Scalar.muli arg46 c8_i32_1284
  let v854 : BitVec 32 := Scalar.addi v853 c0_i32_1285
  let c16_i32_1288 : BitVec 32 := 16#32
  let v864 : BitVec 32 := Scalar.muli v854 c16_i32_1288
  let v866 : Index := Scalar.indexCast v864
  ![v865.toNat, v866.toNat]
@[reducible] def k0_t10_loop : Scf.Loop 32 :=
  let c0_i32_1232 : BitVec 32 := 0#32
  let c8_i32_1233 : BitVec 32 := 8#32
  let v812 : BitVec 32 := Scalar.addi c0_i32_1232 c8_i32_1233
  let c1_i32_1234 : BitVec 32 := 1#32
  ⟨c0_i32_1232, v812, c1_i32_1234⟩
@[reducible] def k0_t11_loop : Scf.Loop 32 :=
  let c0_i32_1280 : BitVec 32 := 0#32
  let c8_i32_1281 : BitVec 32 := 8#32
  let v851 : BitVec 32 := Scalar.addi c0_i32_1280 c8_i32_1281
  let c1_i32_1282 : BitVec 32 := 1#32
  ⟨c0_i32_1280, v851, c1_i32_1282⟩
def k0_off17 (k0_t10 : Fin k0_t10_loop.trips) (k0_t11 : Fin k0_t11_loop.trips) (c0_i32_1285 : BitVec 32) : Fin 2 → Nat :=
  let c0_i32_1232 : BitVec 32 := 0#32
  let c1_i32_1234 : BitVec 32 := 1#32
  let arg37 : BitVec 32 := Scf.iv c0_i32_1232 c1_i32_1234 k0_t10
  let v856 : Index := Scalar.indexCast arg37
  let c0_i32_1280 : BitVec 32 := 0#32
  let c1_i32_1282 : BitVec 32 := 1#32
  let arg46 : BitVec 32 := Scf.iv c0_i32_1280 c1_i32_1282 k0_t11
  let c8_i32_1284 : BitVec 32 := 8#32
  let v853 : BitVec 32 := Scalar.muli arg46 c8_i32_1284
  let v854 : BitVec 32 := Scalar.addi v853 c0_i32_1285
  let c16_i32_1286 : BitVec 32 := 16#32
  let v855 : BitVec 32 := Scalar.muli v854 c16_i32_1286
  let v857 : Index := Scalar.indexCast v855
  ![v856.toNat, v857.toNat]
def k0_off18 (k0_t10 : Fin k0_t10_loop.trips) (k0_t11 : Fin k0_t11_loop.trips) (c0_i32_1285 : BitVec 32) : Fin 2 → Nat :=
  let c0_i32_1232 : BitVec 32 := 0#32
  let c1_i32_1234 : BitVec 32 := 1#32
  let arg37 : BitVec 32 := Scf.iv c0_i32_1232 c1_i32_1234 k0_t10
  let v861 : Index := Scalar.indexCast arg37
  let c1024_i32 : BitVec 32 := 1024#32
  let c0_i32_1280 : BitVec 32 := 0#32
  let c1_i32_1282 : BitVec 32 := 1#32
  let arg46 : BitVec 32 := Scf.iv c0_i32_1280 c1_i32_1282 k0_t11
  let c8_i32_1284 : BitVec 32 := 8#32
  let v853 : BitVec 32 := Scalar.muli arg46 c8_i32_1284
  let v854 : BitVec 32 := Scalar.addi v853 c0_i32_1285
  let c16_i32_1287 : BitVec 32 := 16#32
  let v859 : BitVec 32 := Scalar.muli v854 c16_i32_1287
  let v860 : BitVec 32 := Scalar.addi c1024_i32 v859
  let v862 : Index := Scalar.indexCast v860
  ![v861.toNat, v862.toNat]
def k0_off19 (k0_t10 : Fin k0_t10_loop.trips) (k0_t11 : Fin k0_t11_loop.trips) (c0_i32_1285 : BitVec 32) : Fin 2 → Nat :=
  let c0_i32_1232 : BitVec 32 := 0#32
  let c1_i32_1234 : BitVec 32 := 1#32
  let arg37 : BitVec 32 := Scf.iv c0_i32_1232 c1_i32_1234 k0_t10
  let v865 : Index := Scalar.indexCast arg37
  let c0_i32_1280 : BitVec 32 := 0#32
  let c1_i32_1282 : BitVec 32 := 1#32
  let arg46 : BitVec 32 := Scf.iv c0_i32_1280 c1_i32_1282 k0_t11
  let c8_i32_1284 : BitVec 32 := 8#32
  let v853 : BitVec 32 := Scalar.muli arg46 c8_i32_1284
  let v854 : BitVec 32 := Scalar.addi v853 c0_i32_1285
  let c16_i32_1288 : BitVec 32 := 16#32
  let v864 : BitVec 32 := Scalar.muli v854 c16_i32_1288
  let v866 : Index := Scalar.indexCast v864
  ![v865.toNat, v866.toNat]
@[reducible] def k0_t12_loop : Scf.Loop 32 :=
  let c0_i32_257 : BitVec 32 := 0#32
  let c8_i32_258 : BitVec 32 := 8#32
  let v174 : BitVec 32 := Scalar.addi c0_i32_257 c8_i32_258
  let c1_i32_259 : BitVec 32 := 1#32
  ⟨c0_i32_257, v174, c1_i32_259⟩
@[reducible] def k0_t13_loop : Scf.Loop 32 :=
  let c0_i32_813 : BitVec 32 := 0#32
  let c8_i32_814 : BitVec 32 := 8#32
  let v516 : BitVec 32 := Scalar.addi c0_i32_813 c8_i32_814
  let c1_i32_815 : BitVec 32 := 1#32
  ⟨c0_i32_813, v516, c1_i32_815⟩
def k0_off20 (k0_t12 : Fin k0_t12_loop.trips) (k0_t13 : Fin k0_t13_loop.trips) (c0_i32_818 : BitVec 32) : Fin 2 → Nat :=
  let c0_i32_257 : BitVec 32 := 0#32
  let c1_i32_259 : BitVec 32 := 1#32
  let arg28 : BitVec 32 := Scf.iv c0_i32_257 c1_i32_259 k0_t12
  let v521 : Index := Scalar.indexCast arg28
  let c0_i32_813 : BitVec 32 := 0#32
  let c1_i32_815 : BitVec 32 := 1#32
  let arg37 : BitVec 32 := Scf.iv c0_i32_813 c1_i32_815 k0_t13
  let c8_i32_817 : BitVec 32 := 8#32
  let v518 : BitVec 32 := Scalar.muli arg37 c8_i32_817
  let v519 : BitVec 32 := Scalar.addi v518 c0_i32_818
  let c16_i32_819 : BitVec 32 := 16#32
  let v520 : BitVec 32 := Scalar.muli v519 c16_i32_819
  let v522 : Index := Scalar.indexCast v520
  ![v521.toNat, v522.toNat]
def k0_off21 (k0_t12 : Fin k0_t12_loop.trips) (k0_t13 : Fin k0_t13_loop.trips) (c0_i32_818 : BitVec 32) : Fin 2 → Nat :=
  let c0_i32_257 : BitVec 32 := 0#32
  let c1_i32_259 : BitVec 32 := 1#32
  let arg28 : BitVec 32 := Scf.iv c0_i32_257 c1_i32_259 k0_t12
  let v526 : Index := Scalar.indexCast arg28
  let c1024_i32 : BitVec 32 := 1024#32
  let c0_i32_813 : BitVec 32 := 0#32
  let c1_i32_815 : BitVec 32 := 1#32
  let arg37 : BitVec 32 := Scf.iv c0_i32_813 c1_i32_815 k0_t13
  let c8_i32_817 : BitVec 32 := 8#32
  let v518 : BitVec 32 := Scalar.muli arg37 c8_i32_817
  let v519 : BitVec 32 := Scalar.addi v518 c0_i32_818
  let c16_i32_820 : BitVec 32 := 16#32
  let v524 : BitVec 32 := Scalar.muli v519 c16_i32_820
  let v525 : BitVec 32 := Scalar.addi c1024_i32 v524
  let v527 : Index := Scalar.indexCast v525
  ![v526.toNat, v527.toNat]
def k0_off22 (k0_t12 : Fin k0_t12_loop.trips) (k0_t13 : Fin k0_t13_loop.trips) (c0_i32_818 : BitVec 32) : Fin 2 → Nat :=
  let c0_i32_257 : BitVec 32 := 0#32
  let c1_i32_259 : BitVec 32 := 1#32
  let arg28 : BitVec 32 := Scf.iv c0_i32_257 c1_i32_259 k0_t12
  let v530 : Index := Scalar.indexCast arg28
  let c0_i32_813 : BitVec 32 := 0#32
  let c1_i32_815 : BitVec 32 := 1#32
  let arg37 : BitVec 32 := Scf.iv c0_i32_813 c1_i32_815 k0_t13
  let c8_i32_817 : BitVec 32 := 8#32
  let v518 : BitVec 32 := Scalar.muli arg37 c8_i32_817
  let v519 : BitVec 32 := Scalar.addi v518 c0_i32_818
  let c16_i32_821 : BitVec 32 := 16#32
  let v529 : BitVec 32 := Scalar.muli v519 c16_i32_821
  let v531 : Index := Scalar.indexCast v529
  ![v530.toNat, v531.toNat]
@[reducible] def k0_t14_loop : Scf.Loop 32 :=
  let c0_i32_347 : BitVec 32 := 0#32
  let c8_i32_348 : BitVec 32 := 8#32
  let v229 : BitVec 32 := Scalar.addi c0_i32_347 c8_i32_348
  let c1_i32_349 : BitVec 32 := 1#32
  ⟨c0_i32_347, v229, c1_i32_349⟩
@[reducible] def k0_t15_loop : Scf.Loop 32 :=
  let c0_i32_813 : BitVec 32 := 0#32
  let c8_i32_814 : BitVec 32 := 8#32
  let v516 : BitVec 32 := Scalar.addi c0_i32_813 c8_i32_814
  let c1_i32_815 : BitVec 32 := 1#32
  ⟨c0_i32_813, v516, c1_i32_815⟩
def k0_off23 (k0_t14 : Fin k0_t14_loop.trips) (k0_t15 : Fin k0_t15_loop.trips) (c0_i32_818 : BitVec 32) : Fin 2 → Nat :=
  let c0_i32_347 : BitVec 32 := 0#32
  let c1_i32_349 : BitVec 32 := 1#32
  let arg28 : BitVec 32 := Scf.iv c0_i32_347 c1_i32_349 k0_t14
  let v521 : Index := Scalar.indexCast arg28
  let c0_i32_813 : BitVec 32 := 0#32
  let c1_i32_815 : BitVec 32 := 1#32
  let arg37 : BitVec 32 := Scf.iv c0_i32_813 c1_i32_815 k0_t15
  let c8_i32_817 : BitVec 32 := 8#32
  let v518 : BitVec 32 := Scalar.muli arg37 c8_i32_817
  let v519 : BitVec 32 := Scalar.addi v518 c0_i32_818
  let c16_i32_819 : BitVec 32 := 16#32
  let v520 : BitVec 32 := Scalar.muli v519 c16_i32_819
  let v522 : Index := Scalar.indexCast v520
  ![v521.toNat, v522.toNat]
def k0_off24 (k0_t14 : Fin k0_t14_loop.trips) (k0_t15 : Fin k0_t15_loop.trips) (c0_i32_818 : BitVec 32) : Fin 2 → Nat :=
  let c0_i32_347 : BitVec 32 := 0#32
  let c1_i32_349 : BitVec 32 := 1#32
  let arg28 : BitVec 32 := Scf.iv c0_i32_347 c1_i32_349 k0_t14
  let v526 : Index := Scalar.indexCast arg28
  let c1024_i32 : BitVec 32 := 1024#32
  let c0_i32_813 : BitVec 32 := 0#32
  let c1_i32_815 : BitVec 32 := 1#32
  let arg37 : BitVec 32 := Scf.iv c0_i32_813 c1_i32_815 k0_t15
  let c8_i32_817 : BitVec 32 := 8#32
  let v518 : BitVec 32 := Scalar.muli arg37 c8_i32_817
  let v519 : BitVec 32 := Scalar.addi v518 c0_i32_818
  let c16_i32_820 : BitVec 32 := 16#32
  let v524 : BitVec 32 := Scalar.muli v519 c16_i32_820
  let v525 : BitVec 32 := Scalar.addi c1024_i32 v524
  let v527 : Index := Scalar.indexCast v525
  ![v526.toNat, v527.toNat]
def k0_off25 (k0_t14 : Fin k0_t14_loop.trips) (k0_t15 : Fin k0_t15_loop.trips) (c0_i32_818 : BitVec 32) : Fin 2 → Nat :=
  let c0_i32_347 : BitVec 32 := 0#32
  let c1_i32_349 : BitVec 32 := 1#32
  let arg28 : BitVec 32 := Scf.iv c0_i32_347 c1_i32_349 k0_t14
  let v530 : Index := Scalar.indexCast arg28
  let c0_i32_813 : BitVec 32 := 0#32
  let c1_i32_815 : BitVec 32 := 1#32
  let arg37 : BitVec 32 := Scf.iv c0_i32_813 c1_i32_815 k0_t15
  let c8_i32_817 : BitVec 32 := 8#32
  let v518 : BitVec 32 := Scalar.muli arg37 c8_i32_817
  let v519 : BitVec 32 := Scalar.addi v518 c0_i32_818
  let c16_i32_821 : BitVec 32 := 16#32
  let v529 : BitVec 32 := Scalar.muli v519 c16_i32_821
  let v531 : Index := Scalar.indexCast v529
  ![v530.toNat, v531.toNat]
@[reducible] def k0_t16_loop : Scf.Loop 32 :=
  let c0_i32_437 : BitVec 32 := 0#32
  let c8_i32_438 : BitVec 32 := 8#32
  let v284 : BitVec 32 := Scalar.addi c0_i32_437 c8_i32_438
  let c1_i32_439 : BitVec 32 := 1#32
  ⟨c0_i32_437, v284, c1_i32_439⟩
@[reducible] def k0_t17_loop : Scf.Loop 32 :=
  let c0_i32_813 : BitVec 32 := 0#32
  let c8_i32_814 : BitVec 32 := 8#32
  let v516 : BitVec 32 := Scalar.addi c0_i32_813 c8_i32_814
  let c1_i32_815 : BitVec 32 := 1#32
  ⟨c0_i32_813, v516, c1_i32_815⟩
def k0_off26 (k0_t16 : Fin k0_t16_loop.trips) (k0_t17 : Fin k0_t17_loop.trips) (c0_i32_818 : BitVec 32) : Fin 2 → Nat :=
  let c0_i32_437 : BitVec 32 := 0#32
  let c1_i32_439 : BitVec 32 := 1#32
  let arg28 : BitVec 32 := Scf.iv c0_i32_437 c1_i32_439 k0_t16
  let v521 : Index := Scalar.indexCast arg28
  let c0_i32_813 : BitVec 32 := 0#32
  let c1_i32_815 : BitVec 32 := 1#32
  let arg37 : BitVec 32 := Scf.iv c0_i32_813 c1_i32_815 k0_t17
  let c8_i32_817 : BitVec 32 := 8#32
  let v518 : BitVec 32 := Scalar.muli arg37 c8_i32_817
  let v519 : BitVec 32 := Scalar.addi v518 c0_i32_818
  let c16_i32_819 : BitVec 32 := 16#32
  let v520 : BitVec 32 := Scalar.muli v519 c16_i32_819
  let v522 : Index := Scalar.indexCast v520
  ![v521.toNat, v522.toNat]
def k0_off27 (k0_t16 : Fin k0_t16_loop.trips) (k0_t17 : Fin k0_t17_loop.trips) (c0_i32_818 : BitVec 32) : Fin 2 → Nat :=
  let c0_i32_437 : BitVec 32 := 0#32
  let c1_i32_439 : BitVec 32 := 1#32
  let arg28 : BitVec 32 := Scf.iv c0_i32_437 c1_i32_439 k0_t16
  let v526 : Index := Scalar.indexCast arg28
  let c1024_i32 : BitVec 32 := 1024#32
  let c0_i32_813 : BitVec 32 := 0#32
  let c1_i32_815 : BitVec 32 := 1#32
  let arg37 : BitVec 32 := Scf.iv c0_i32_813 c1_i32_815 k0_t17
  let c8_i32_817 : BitVec 32 := 8#32
  let v518 : BitVec 32 := Scalar.muli arg37 c8_i32_817
  let v519 : BitVec 32 := Scalar.addi v518 c0_i32_818
  let c16_i32_820 : BitVec 32 := 16#32
  let v524 : BitVec 32 := Scalar.muli v519 c16_i32_820
  let v525 : BitVec 32 := Scalar.addi c1024_i32 v524
  let v527 : Index := Scalar.indexCast v525
  ![v526.toNat, v527.toNat]
def k0_off28 (k0_t16 : Fin k0_t16_loop.trips) (k0_t17 : Fin k0_t17_loop.trips) (c0_i32_818 : BitVec 32) : Fin 2 → Nat :=
  let c0_i32_437 : BitVec 32 := 0#32
  let c1_i32_439 : BitVec 32 := 1#32
  let arg28 : BitVec 32 := Scf.iv c0_i32_437 c1_i32_439 k0_t16
  let v530 : Index := Scalar.indexCast arg28
  let c0_i32_813 : BitVec 32 := 0#32
  let c1_i32_815 : BitVec 32 := 1#32
  let arg37 : BitVec 32 := Scf.iv c0_i32_813 c1_i32_815 k0_t17
  let c8_i32_817 : BitVec 32 := 8#32
  let v518 : BitVec 32 := Scalar.muli arg37 c8_i32_817
  let v519 : BitVec 32 := Scalar.addi v518 c0_i32_818
  let c16_i32_821 : BitVec 32 := 16#32
  let v529 : BitVec 32 := Scalar.muli v519 c16_i32_821
  let v531 : Index := Scalar.indexCast v529
  ![v530.toNat, v531.toNat]
@[reducible] def k0_t18_loop : Scf.Loop 32 :=
  let c0_i32_527 : BitVec 32 := 0#32
  let c8_i32_528 : BitVec 32 := 8#32
  let v339 : BitVec 32 := Scalar.addi c0_i32_527 c8_i32_528
  let c1_i32_529 : BitVec 32 := 1#32
  ⟨c0_i32_527, v339, c1_i32_529⟩
@[reducible] def k0_t19_loop : Scf.Loop 32 :=
  let c0_i32_813 : BitVec 32 := 0#32
  let c8_i32_814 : BitVec 32 := 8#32
  let v516 : BitVec 32 := Scalar.addi c0_i32_813 c8_i32_814
  let c1_i32_815 : BitVec 32 := 1#32
  ⟨c0_i32_813, v516, c1_i32_815⟩
def k0_off29 (k0_t18 : Fin k0_t18_loop.trips) (k0_t19 : Fin k0_t19_loop.trips) (c0_i32_818 : BitVec 32) : Fin 2 → Nat :=
  let c0_i32_527 : BitVec 32 := 0#32
  let c1_i32_529 : BitVec 32 := 1#32
  let arg28 : BitVec 32 := Scf.iv c0_i32_527 c1_i32_529 k0_t18
  let v521 : Index := Scalar.indexCast arg28
  let c0_i32_813 : BitVec 32 := 0#32
  let c1_i32_815 : BitVec 32 := 1#32
  let arg37 : BitVec 32 := Scf.iv c0_i32_813 c1_i32_815 k0_t19
  let c8_i32_817 : BitVec 32 := 8#32
  let v518 : BitVec 32 := Scalar.muli arg37 c8_i32_817
  let v519 : BitVec 32 := Scalar.addi v518 c0_i32_818
  let c16_i32_819 : BitVec 32 := 16#32
  let v520 : BitVec 32 := Scalar.muli v519 c16_i32_819
  let v522 : Index := Scalar.indexCast v520
  ![v521.toNat, v522.toNat]
def k0_off30 (k0_t18 : Fin k0_t18_loop.trips) (k0_t19 : Fin k0_t19_loop.trips) (c0_i32_818 : BitVec 32) : Fin 2 → Nat :=
  let c0_i32_527 : BitVec 32 := 0#32
  let c1_i32_529 : BitVec 32 := 1#32
  let arg28 : BitVec 32 := Scf.iv c0_i32_527 c1_i32_529 k0_t18
  let v526 : Index := Scalar.indexCast arg28
  let c1024_i32 : BitVec 32 := 1024#32
  let c0_i32_813 : BitVec 32 := 0#32
  let c1_i32_815 : BitVec 32 := 1#32
  let arg37 : BitVec 32 := Scf.iv c0_i32_813 c1_i32_815 k0_t19
  let c8_i32_817 : BitVec 32 := 8#32
  let v518 : BitVec 32 := Scalar.muli arg37 c8_i32_817
  let v519 : BitVec 32 := Scalar.addi v518 c0_i32_818
  let c16_i32_820 : BitVec 32 := 16#32
  let v524 : BitVec 32 := Scalar.muli v519 c16_i32_820
  let v525 : BitVec 32 := Scalar.addi c1024_i32 v524
  let v527 : Index := Scalar.indexCast v525
  ![v526.toNat, v527.toNat]
def k0_off31 (k0_t18 : Fin k0_t18_loop.trips) (k0_t19 : Fin k0_t19_loop.trips) (c0_i32_818 : BitVec 32) : Fin 2 → Nat :=
  let c0_i32_527 : BitVec 32 := 0#32
  let c1_i32_529 : BitVec 32 := 1#32
  let arg28 : BitVec 32 := Scf.iv c0_i32_527 c1_i32_529 k0_t18
  let v530 : Index := Scalar.indexCast arg28
  let c0_i32_813 : BitVec 32 := 0#32
  let c1_i32_815 : BitVec 32 := 1#32
  let arg37 : BitVec 32 := Scf.iv c0_i32_813 c1_i32_815 k0_t19
  let c8_i32_817 : BitVec 32 := 8#32
  let v518 : BitVec 32 := Scalar.muli arg37 c8_i32_817
  let v519 : BitVec 32 := Scalar.addi v518 c0_i32_818
  let c16_i32_821 : BitVec 32 := 16#32
  let v529 : BitVec 32 := Scalar.muli v519 c16_i32_821
  let v531 : Index := Scalar.indexCast v529
  ![v530.toNat, v531.toNat]
@[reducible] def k0_t20_loop : Scf.Loop 32 :=
  let c0_i32_617 : BitVec 32 := 0#32
  let c8_i32_618 : BitVec 32 := 8#32
  let v394 : BitVec 32 := Scalar.addi c0_i32_617 c8_i32_618
  let c1_i32_619 : BitVec 32 := 1#32
  ⟨c0_i32_617, v394, c1_i32_619⟩
@[reducible] def k0_t21_loop : Scf.Loop 32 :=
  let c0_i32_813 : BitVec 32 := 0#32
  let c8_i32_814 : BitVec 32 := 8#32
  let v516 : BitVec 32 := Scalar.addi c0_i32_813 c8_i32_814
  let c1_i32_815 : BitVec 32 := 1#32
  ⟨c0_i32_813, v516, c1_i32_815⟩
def k0_off32 (k0_t20 : Fin k0_t20_loop.trips) (k0_t21 : Fin k0_t21_loop.trips) (c0_i32_818 : BitVec 32) : Fin 2 → Nat :=
  let c0_i32_617 : BitVec 32 := 0#32
  let c1_i32_619 : BitVec 32 := 1#32
  let arg28 : BitVec 32 := Scf.iv c0_i32_617 c1_i32_619 k0_t20
  let v521 : Index := Scalar.indexCast arg28
  let c0_i32_813 : BitVec 32 := 0#32
  let c1_i32_815 : BitVec 32 := 1#32
  let arg37 : BitVec 32 := Scf.iv c0_i32_813 c1_i32_815 k0_t21
  let c8_i32_817 : BitVec 32 := 8#32
  let v518 : BitVec 32 := Scalar.muli arg37 c8_i32_817
  let v519 : BitVec 32 := Scalar.addi v518 c0_i32_818
  let c16_i32_819 : BitVec 32 := 16#32
  let v520 : BitVec 32 := Scalar.muli v519 c16_i32_819
  let v522 : Index := Scalar.indexCast v520
  ![v521.toNat, v522.toNat]
def k0_off33 (k0_t20 : Fin k0_t20_loop.trips) (k0_t21 : Fin k0_t21_loop.trips) (c0_i32_818 : BitVec 32) : Fin 2 → Nat :=
  let c0_i32_617 : BitVec 32 := 0#32
  let c1_i32_619 : BitVec 32 := 1#32
  let arg28 : BitVec 32 := Scf.iv c0_i32_617 c1_i32_619 k0_t20
  let v526 : Index := Scalar.indexCast arg28
  let c1024_i32 : BitVec 32 := 1024#32
  let c0_i32_813 : BitVec 32 := 0#32
  let c1_i32_815 : BitVec 32 := 1#32
  let arg37 : BitVec 32 := Scf.iv c0_i32_813 c1_i32_815 k0_t21
  let c8_i32_817 : BitVec 32 := 8#32
  let v518 : BitVec 32 := Scalar.muli arg37 c8_i32_817
  let v519 : BitVec 32 := Scalar.addi v518 c0_i32_818
  let c16_i32_820 : BitVec 32 := 16#32
  let v524 : BitVec 32 := Scalar.muli v519 c16_i32_820
  let v525 : BitVec 32 := Scalar.addi c1024_i32 v524
  let v527 : Index := Scalar.indexCast v525
  ![v526.toNat, v527.toNat]
def k0_off34 (k0_t20 : Fin k0_t20_loop.trips) (k0_t21 : Fin k0_t21_loop.trips) (c0_i32_818 : BitVec 32) : Fin 2 → Nat :=
  let c0_i32_617 : BitVec 32 := 0#32
  let c1_i32_619 : BitVec 32 := 1#32
  let arg28 : BitVec 32 := Scf.iv c0_i32_617 c1_i32_619 k0_t20
  let v530 : Index := Scalar.indexCast arg28
  let c0_i32_813 : BitVec 32 := 0#32
  let c1_i32_815 : BitVec 32 := 1#32
  let arg37 : BitVec 32 := Scf.iv c0_i32_813 c1_i32_815 k0_t21
  let c8_i32_817 : BitVec 32 := 8#32
  let v518 : BitVec 32 := Scalar.muli arg37 c8_i32_817
  let v519 : BitVec 32 := Scalar.addi v518 c0_i32_818
  let c16_i32_821 : BitVec 32 := 16#32
  let v529 : BitVec 32 := Scalar.muli v519 c16_i32_821
  let v531 : Index := Scalar.indexCast v529
  ![v530.toNat, v531.toNat]
@[reducible] def k0_t22_loop : Scf.Loop 32 :=
  let c0_i32_665 : BitVec 32 := 0#32
  let c8_i32_666 : BitVec 32 := 8#32
  let v422 : BitVec 32 := Scalar.addi c0_i32_665 c8_i32_666
  let c1_i32_667 : BitVec 32 := 1#32
  ⟨c0_i32_665, v422, c1_i32_667⟩
@[reducible] def k0_t23_loop : Scf.Loop 32 :=
  let c0_i32_813 : BitVec 32 := 0#32
  let c8_i32_814 : BitVec 32 := 8#32
  let v516 : BitVec 32 := Scalar.addi c0_i32_813 c8_i32_814
  let c1_i32_815 : BitVec 32 := 1#32
  ⟨c0_i32_813, v516, c1_i32_815⟩
def k0_off35 (k0_t22 : Fin k0_t22_loop.trips) (k0_t23 : Fin k0_t23_loop.trips) (c0_i32_818 : BitVec 32) : Fin 2 → Nat :=
  let c0_i32_665 : BitVec 32 := 0#32
  let c1_i32_667 : BitVec 32 := 1#32
  let arg28 : BitVec 32 := Scf.iv c0_i32_665 c1_i32_667 k0_t22
  let v521 : Index := Scalar.indexCast arg28
  let c0_i32_813 : BitVec 32 := 0#32
  let c1_i32_815 : BitVec 32 := 1#32
  let arg37 : BitVec 32 := Scf.iv c0_i32_813 c1_i32_815 k0_t23
  let c8_i32_817 : BitVec 32 := 8#32
  let v518 : BitVec 32 := Scalar.muli arg37 c8_i32_817
  let v519 : BitVec 32 := Scalar.addi v518 c0_i32_818
  let c16_i32_819 : BitVec 32 := 16#32
  let v520 : BitVec 32 := Scalar.muli v519 c16_i32_819
  let v522 : Index := Scalar.indexCast v520
  ![v521.toNat, v522.toNat]
def k0_off36 (k0_t22 : Fin k0_t22_loop.trips) (k0_t23 : Fin k0_t23_loop.trips) (c0_i32_818 : BitVec 32) : Fin 2 → Nat :=
  let c0_i32_665 : BitVec 32 := 0#32
  let c1_i32_667 : BitVec 32 := 1#32
  let arg28 : BitVec 32 := Scf.iv c0_i32_665 c1_i32_667 k0_t22
  let v526 : Index := Scalar.indexCast arg28
  let c1024_i32 : BitVec 32 := 1024#32
  let c0_i32_813 : BitVec 32 := 0#32
  let c1_i32_815 : BitVec 32 := 1#32
  let arg37 : BitVec 32 := Scf.iv c0_i32_813 c1_i32_815 k0_t23
  let c8_i32_817 : BitVec 32 := 8#32
  let v518 : BitVec 32 := Scalar.muli arg37 c8_i32_817
  let v519 : BitVec 32 := Scalar.addi v518 c0_i32_818
  let c16_i32_820 : BitVec 32 := 16#32
  let v524 : BitVec 32 := Scalar.muli v519 c16_i32_820
  let v525 : BitVec 32 := Scalar.addi c1024_i32 v524
  let v527 : Index := Scalar.indexCast v525
  ![v526.toNat, v527.toNat]
def k0_off37 (k0_t22 : Fin k0_t22_loop.trips) (k0_t23 : Fin k0_t23_loop.trips) (c0_i32_818 : BitVec 32) : Fin 2 → Nat :=
  let c0_i32_665 : BitVec 32 := 0#32
  let c1_i32_667 : BitVec 32 := 1#32
  let arg28 : BitVec 32 := Scf.iv c0_i32_665 c1_i32_667 k0_t22
  let v530 : Index := Scalar.indexCast arg28
  let c0_i32_813 : BitVec 32 := 0#32
  let c1_i32_815 : BitVec 32 := 1#32
  let arg37 : BitVec 32 := Scf.iv c0_i32_813 c1_i32_815 k0_t23
  let c8_i32_817 : BitVec 32 := 8#32
  let v518 : BitVec 32 := Scalar.muli arg37 c8_i32_817
  let v519 : BitVec 32 := Scalar.addi v518 c0_i32_818
  let c16_i32_821 : BitVec 32 := 16#32
  let v529 : BitVec 32 := Scalar.muli v519 c16_i32_821
  let v531 : Index := Scalar.indexCast v529
  ![v530.toNat, v531.toNat]
@[reducible] def k0_t24_loop : Scf.Loop 32 :=
  let c0_i32_713 : BitVec 32 := 0#32
  let c8_i32_714 : BitVec 32 := 8#32
  let v450 : BitVec 32 := Scalar.addi c0_i32_713 c8_i32_714
  let c1_i32_715 : BitVec 32 := 1#32
  ⟨c0_i32_713, v450, c1_i32_715⟩
@[reducible] def k0_t25_loop : Scf.Loop 32 :=
  let c0_i32_813 : BitVec 32 := 0#32
  let c8_i32_814 : BitVec 32 := 8#32
  let v516 : BitVec 32 := Scalar.addi c0_i32_813 c8_i32_814
  let c1_i32_815 : BitVec 32 := 1#32
  ⟨c0_i32_813, v516, c1_i32_815⟩
def k0_off38 (k0_t24 : Fin k0_t24_loop.trips) (k0_t25 : Fin k0_t25_loop.trips) (c0_i32_818 : BitVec 32) : Fin 2 → Nat :=
  let c0_i32_713 : BitVec 32 := 0#32
  let c1_i32_715 : BitVec 32 := 1#32
  let arg28 : BitVec 32 := Scf.iv c0_i32_713 c1_i32_715 k0_t24
  let v521 : Index := Scalar.indexCast arg28
  let c0_i32_813 : BitVec 32 := 0#32
  let c1_i32_815 : BitVec 32 := 1#32
  let arg37 : BitVec 32 := Scf.iv c0_i32_813 c1_i32_815 k0_t25
  let c8_i32_817 : BitVec 32 := 8#32
  let v518 : BitVec 32 := Scalar.muli arg37 c8_i32_817
  let v519 : BitVec 32 := Scalar.addi v518 c0_i32_818
  let c16_i32_819 : BitVec 32 := 16#32
  let v520 : BitVec 32 := Scalar.muli v519 c16_i32_819
  let v522 : Index := Scalar.indexCast v520
  ![v521.toNat, v522.toNat]
def k0_off39 (k0_t24 : Fin k0_t24_loop.trips) (k0_t25 : Fin k0_t25_loop.trips) (c0_i32_818 : BitVec 32) : Fin 2 → Nat :=
  let c0_i32_713 : BitVec 32 := 0#32
  let c1_i32_715 : BitVec 32 := 1#32
  let arg28 : BitVec 32 := Scf.iv c0_i32_713 c1_i32_715 k0_t24
  let v526 : Index := Scalar.indexCast arg28
  let c1024_i32 : BitVec 32 := 1024#32
  let c0_i32_813 : BitVec 32 := 0#32
  let c1_i32_815 : BitVec 32 := 1#32
  let arg37 : BitVec 32 := Scf.iv c0_i32_813 c1_i32_815 k0_t25
  let c8_i32_817 : BitVec 32 := 8#32
  let v518 : BitVec 32 := Scalar.muli arg37 c8_i32_817
  let v519 : BitVec 32 := Scalar.addi v518 c0_i32_818
  let c16_i32_820 : BitVec 32 := 16#32
  let v524 : BitVec 32 := Scalar.muli v519 c16_i32_820
  let v525 : BitVec 32 := Scalar.addi c1024_i32 v524
  let v527 : Index := Scalar.indexCast v525
  ![v526.toNat, v527.toNat]
def k0_off40 (k0_t24 : Fin k0_t24_loop.trips) (k0_t25 : Fin k0_t25_loop.trips) (c0_i32_818 : BitVec 32) : Fin 2 → Nat :=
  let c0_i32_713 : BitVec 32 := 0#32
  let c1_i32_715 : BitVec 32 := 1#32
  let arg28 : BitVec 32 := Scf.iv c0_i32_713 c1_i32_715 k0_t24
  let v530 : Index := Scalar.indexCast arg28
  let c0_i32_813 : BitVec 32 := 0#32
  let c1_i32_815 : BitVec 32 := 1#32
  let arg37 : BitVec 32 := Scf.iv c0_i32_813 c1_i32_815 k0_t25
  let c8_i32_817 : BitVec 32 := 8#32
  let v518 : BitVec 32 := Scalar.muli arg37 c8_i32_817
  let v519 : BitVec 32 := Scalar.addi v518 c0_i32_818
  let c16_i32_821 : BitVec 32 := 16#32
  let v529 : BitVec 32 := Scalar.muli v519 c16_i32_821
  let v531 : Index := Scalar.indexCast v529
  ![v530.toNat, v531.toNat]
@[reducible] def k0_t26_loop : Scf.Loop 32 :=
  let c0_i32_761 : BitVec 32 := 0#32
  let c8_i32_762 : BitVec 32 := 8#32
  let v478 : BitVec 32 := Scalar.addi c0_i32_761 c8_i32_762
  let c1_i32_763 : BitVec 32 := 1#32
  ⟨c0_i32_761, v478, c1_i32_763⟩
@[reducible] def k0_t27_loop : Scf.Loop 32 :=
  let c0_i32_813 : BitVec 32 := 0#32
  let c8_i32_814 : BitVec 32 := 8#32
  let v516 : BitVec 32 := Scalar.addi c0_i32_813 c8_i32_814
  let c1_i32_815 : BitVec 32 := 1#32
  ⟨c0_i32_813, v516, c1_i32_815⟩
def k0_off41 (k0_t26 : Fin k0_t26_loop.trips) (k0_t27 : Fin k0_t27_loop.trips) (c0_i32_818 : BitVec 32) : Fin 2 → Nat :=
  let c0_i32_761 : BitVec 32 := 0#32
  let c1_i32_763 : BitVec 32 := 1#32
  let arg28 : BitVec 32 := Scf.iv c0_i32_761 c1_i32_763 k0_t26
  let v521 : Index := Scalar.indexCast arg28
  let c0_i32_813 : BitVec 32 := 0#32
  let c1_i32_815 : BitVec 32 := 1#32
  let arg37 : BitVec 32 := Scf.iv c0_i32_813 c1_i32_815 k0_t27
  let c8_i32_817 : BitVec 32 := 8#32
  let v518 : BitVec 32 := Scalar.muli arg37 c8_i32_817
  let v519 : BitVec 32 := Scalar.addi v518 c0_i32_818
  let c16_i32_819 : BitVec 32 := 16#32
  let v520 : BitVec 32 := Scalar.muli v519 c16_i32_819
  let v522 : Index := Scalar.indexCast v520
  ![v521.toNat, v522.toNat]
def k0_off42 (k0_t26 : Fin k0_t26_loop.trips) (k0_t27 : Fin k0_t27_loop.trips) (c0_i32_818 : BitVec 32) : Fin 2 → Nat :=
  let c0_i32_761 : BitVec 32 := 0#32
  let c1_i32_763 : BitVec 32 := 1#32
  let arg28 : BitVec 32 := Scf.iv c0_i32_761 c1_i32_763 k0_t26
  let v526 : Index := Scalar.indexCast arg28
  let c1024_i32 : BitVec 32 := 1024#32
  let c0_i32_813 : BitVec 32 := 0#32
  let c1_i32_815 : BitVec 32 := 1#32
  let arg37 : BitVec 32 := Scf.iv c0_i32_813 c1_i32_815 k0_t27
  let c8_i32_817 : BitVec 32 := 8#32
  let v518 : BitVec 32 := Scalar.muli arg37 c8_i32_817
  let v519 : BitVec 32 := Scalar.addi v518 c0_i32_818
  let c16_i32_820 : BitVec 32 := 16#32
  let v524 : BitVec 32 := Scalar.muli v519 c16_i32_820
  let v525 : BitVec 32 := Scalar.addi c1024_i32 v524
  let v527 : Index := Scalar.indexCast v525
  ![v526.toNat, v527.toNat]
def k0_off43 (k0_t26 : Fin k0_t26_loop.trips) (k0_t27 : Fin k0_t27_loop.trips) (c0_i32_818 : BitVec 32) : Fin 2 → Nat :=
  let c0_i32_761 : BitVec 32 := 0#32
  let c1_i32_763 : BitVec 32 := 1#32
  let arg28 : BitVec 32 := Scf.iv c0_i32_761 c1_i32_763 k0_t26
  let v530 : Index := Scalar.indexCast arg28
  let c0_i32_813 : BitVec 32 := 0#32
  let c1_i32_815 : BitVec 32 := 1#32
  let arg37 : BitVec 32 := Scf.iv c0_i32_813 c1_i32_815 k0_t27
  let c8_i32_817 : BitVec 32 := 8#32
  let v518 : BitVec 32 := Scalar.muli arg37 c8_i32_817
  let v519 : BitVec 32 := Scalar.addi v518 c0_i32_818
  let c16_i32_821 : BitVec 32 := 16#32
  let v529 : BitVec 32 := Scalar.muli v519 c16_i32_821
  let v531 : Index := Scalar.indexCast v529
  ![v530.toNat, v531.toNat]
@[reducible] def k0_t28_loop : Scf.Loop 32 :=
  let c0_i32_809 : BitVec 32 := 0#32
  let c8_i32_810 : BitVec 32 := 8#32
  let v506 : BitVec 32 := Scalar.addi c0_i32_809 c8_i32_810
  let c1_i32_811 : BitVec 32 := 1#32
  ⟨c0_i32_809, v506, c1_i32_811⟩
@[reducible] def k0_t29_loop : Scf.Loop 32 :=
  let c0_i32_813 : BitVec 32 := 0#32
  let c8_i32_814 : BitVec 32 := 8#32
  let v516 : BitVec 32 := Scalar.addi c0_i32_813 c8_i32_814
  let c1_i32_815 : BitVec 32 := 1#32
  ⟨c0_i32_813, v516, c1_i32_815⟩
def k0_off44 (k0_t28 : Fin k0_t28_loop.trips) (k0_t29 : Fin k0_t29_loop.trips) (c0_i32_818 : BitVec 32) : Fin 2 → Nat :=
  let c0_i32_809 : BitVec 32 := 0#32
  let c1_i32_811 : BitVec 32 := 1#32
  let arg28 : BitVec 32 := Scf.iv c0_i32_809 c1_i32_811 k0_t28
  let v521 : Index := Scalar.indexCast arg28
  let c0_i32_813 : BitVec 32 := 0#32
  let c1_i32_815 : BitVec 32 := 1#32
  let arg37 : BitVec 32 := Scf.iv c0_i32_813 c1_i32_815 k0_t29
  let c8_i32_817 : BitVec 32 := 8#32
  let v518 : BitVec 32 := Scalar.muli arg37 c8_i32_817
  let v519 : BitVec 32 := Scalar.addi v518 c0_i32_818
  let c16_i32_819 : BitVec 32 := 16#32
  let v520 : BitVec 32 := Scalar.muli v519 c16_i32_819
  let v522 : Index := Scalar.indexCast v520
  ![v521.toNat, v522.toNat]
def k0_off45 (k0_t28 : Fin k0_t28_loop.trips) (k0_t29 : Fin k0_t29_loop.trips) (c0_i32_818 : BitVec 32) : Fin 2 → Nat :=
  let c0_i32_809 : BitVec 32 := 0#32
  let c1_i32_811 : BitVec 32 := 1#32
  let arg28 : BitVec 32 := Scf.iv c0_i32_809 c1_i32_811 k0_t28
  let v526 : Index := Scalar.indexCast arg28
  let c1024_i32 : BitVec 32 := 1024#32
  let c0_i32_813 : BitVec 32 := 0#32
  let c1_i32_815 : BitVec 32 := 1#32
  let arg37 : BitVec 32 := Scf.iv c0_i32_813 c1_i32_815 k0_t29
  let c8_i32_817 : BitVec 32 := 8#32
  let v518 : BitVec 32 := Scalar.muli arg37 c8_i32_817
  let v519 : BitVec 32 := Scalar.addi v518 c0_i32_818
  let c16_i32_820 : BitVec 32 := 16#32
  let v524 : BitVec 32 := Scalar.muli v519 c16_i32_820
  let v525 : BitVec 32 := Scalar.addi c1024_i32 v524
  let v527 : Index := Scalar.indexCast v525
  ![v526.toNat, v527.toNat]
def k0_off46 (k0_t28 : Fin k0_t28_loop.trips) (k0_t29 : Fin k0_t29_loop.trips) (c0_i32_818 : BitVec 32) : Fin 2 → Nat :=
  let c0_i32_809 : BitVec 32 := 0#32
  let c1_i32_811 : BitVec 32 := 1#32
  let arg28 : BitVec 32 := Scf.iv c0_i32_809 c1_i32_811 k0_t28
  let v530 : Index := Scalar.indexCast arg28
  let c0_i32_813 : BitVec 32 := 0#32
  let c1_i32_815 : BitVec 32 := 1#32
  let arg37 : BitVec 32 := Scf.iv c0_i32_813 c1_i32_815 k0_t29
  let c8_i32_817 : BitVec 32 := 8#32
  let v518 : BitVec 32 := Scalar.muli arg37 c8_i32_817
  let v519 : BitVec 32 := Scalar.addi v518 c0_i32_818
  let c16_i32_821 : BitVec 32 := 16#32
  let v529 : BitVec 32 := Scalar.muli v519 c16_i32_821
  let v531 : Index := Scalar.indexCast v529
  ![v530.toNat, v531.toNat]
def k0_off47 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_813_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2048 : Shape := ⟨2, ![16384, 2048]⟩
abbrev S16384 : Shape := ⟨1, ![16384]⟩
abbrev S2048x1024 : Shape := ⟨2, ![2048, 1024]⟩
abbrev S2048x1024x2 : Shape := ⟨3, ![2048, 1024, 2]⟩
abbrev S2048x2x1024 : Shape := ⟨3, ![2048, 2, 1024]⟩
abbrev S2048x2048 : Shape := ⟨2, ![2048, 2048]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S2048x1024, .i32⟩
  | .hbm, ⟨3, _⟩ => ⟨S2048x1024x2, .bf16⟩
  | .hbm, ⟨4, _⟩ => ⟨S2048x2x1024, .bf16⟩
  | .hbm, ⟨5, _⟩ => ⟨S2048x2048, .bf16⟩
  | .hbm, ⟨6, _⟩ => ⟨S2048x2048, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S1, .i32⟩
  | .hbm, ⟨16, _⟩ => ⟨S_, .i32⟩
  | .hbm, ⟨17, _⟩ => ⟨S16384x1, .i32⟩
  | .hbm, ⟨18, _⟩ => ⟨S16384x1, .i1⟩
  | .hbm, ⟨19, _⟩ => ⟨S1x1, .i32⟩
  | .hbm, ⟨20, _⟩ => ⟨S16384x1, .i32⟩
  | .hbm, ⟨21, _⟩ => ⟨S16384x1, .i1⟩
  | .hbm, ⟨22, _⟩ => ⟨S16384x1, .i1⟩
  | .hbm, ⟨23, _⟩ => ⟨S_, .i1⟩
  | .hbm, ⟨24, _⟩ => ⟨S16384, .i1⟩
  | .hbm, ⟨25, _⟩ => ⟨S16384x2048, .f32⟩
  | .hbm, ⟨26, _⟩ => ⟨S16384x2048, .i1⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_v5 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩

abbrev nD : Nat := 1
abbrev τ : Topo := Topo.v7x

variable {F : FTy → Type} [FloatOps F]
-- ==== Proof.Blocks.lean ====
/-
  The kernel's body, read as blocks. Each of 32 tiles keeps five slots in flight: a slot is a pair of buffers (8 rows of
  the features, 8 gathered rows of the table) and a pair of semaphores. A block is one of: issue the transfers of a
  slot, await them, add the slot's squared distances to the eight accumulators. The printed body is the composition of
  these blocks (`cc0_body_eq`): two programs with the same effects in the same order.
-/
module

public import proofs.«01_k».proof.Proof.Gen.KernelIdeal.Skeleton
public import Idealize.ShloMosaic.Lib.Scf

@[expose] public section

set_option maxRecDepth 65536

noncomputable section

namespace Cert.Proof

open Idealize.ShloMosaic Idealize.SL.Sem
open Cert.KernelIdeal Cert.KernelIdeal.Gen

variable {F : FTy → Type} [FloatOps F]

/-- A program of the tile at grid point `i`. -/
abbrev TileProg (F : FTy → Type) [FloatOps F] (i : grid0.Coords) (α : Type) : Type 1 :=
  Prog (TpuEff nD τ sig (Elt F) Λ₀ (.scVector ((i 0).castLE hcore0) ((i 1).castLE hsub0))) α

/-- The eight accumulators, each of sixteen lanes. -/
abbrev Acc (F : FTy → Type) [FloatOps F] : Type :=
  FVec F S16 .f32 × FVec F S16 .f32 × FVec F S16 .f32 × FVec F S16 .f32
    × FVec F S16 .f32 × FVec F S16 .f32 × FVec F S16 .f32 × FVec F S16 .f32

section Blocks

variable {i : grid0.Coords} {α : Type}

theorem inbG (k : Fin 8) : ∀ a, (![0, 128 * k.val] : Fin 2 → Nat) a + S8x128.size a ≤ S8x1024.size a := by
  revert k; decide
theorem inbT (k : Fin 8) : ∀ a, (![0, 128 * k.val] : Fin 2 → Nat) a + S2048x128.size a ≤ S2048x1024.size a := by
  revert k; decide

/-- Columns `128k … 128k+127` of a slot's gathered rows. -/
abbrev gWin (gb : Memref sig .scVector .vmem S8x1024 .i32) (k : Fin 8) : Memref sig .scVector .vmem S8x128 .i32 :=
  gb.slice (Rect.unit (s := S8x1024) ![0, 128 * k.val] S8x128.size (inbG k)) (fun _ => rfl)

/-- Columns `128k … 128k+127` of the table. -/
abbrev tWin (T : Memref sig .scVector .hbm S2048x1024 .i32) (k : Fin 8) : Memref sig .scVector .hbm S2048x128 .i32 :=
  T.slice (Rect.unit (s := S2048x1024) ![0, 128 * k.val] S2048x128.size (inbT k)) (fun _ => rfl)

/-- Eight consecutive entries of the tile's list, from `off`. -/
abbrev lWin (L : Memref sig .scVector .vmem S512 .i32) (off : Fin 1 → Nat) (h : ∀ a, off a + S8.size a ≤ S512.size a) :
    Memref sig .scVector .vmem S8 .i32 :=
  L.slice (Rect.unit (s := S512) off S8.size h) (fun _ => rfl)

/-- Eight rows of the features, from `off`. -/
abbrev xWin (X : Memref sig .scVector .hbm S16384x2048 .f32) (off : Fin 2 → Nat)
    (h : ∀ a, off a + S8x2048.size a ≤ S16384x2048.size a) : Memref sig .scVector .hbm S8x2048 .f32 :=
  X.slice (Rect.unit (s := S16384x2048) off S8x2048.size h) (fun _ => rfl)

/-- Gather the eight rows' columns of window `k`. -/
def gat (T : Memref sig .scVector .hbm S2048x1024 .i32) (gb : Memref sig .scVector .vmem S8x1024 .i32)
    (l : Memref sig .scVector .vmem S8 .i32) (sg : DmaSem sig) (k : Fin 8) (rest : TileProg F i α) : TileProg F i α :=
  SparseCore.enqueueIndirectGather rfl (tWin T k) (gWin gb k) gathers_S2048x128_S8x128 l rfl sg
    (View.wordExact_bits rfl) rfl (Or.inl rfl) >>= fun _ => rest

/-- Await the gather of window `k`. -/
def gwait (T : Memref sig .scVector .hbm S2048x1024 .i32) (gb : Memref sig .scVector .vmem S8x1024 .i32)
    (sg : DmaSem sig) (k : Fin 8) (rest : TileProg F i α) : TileProg F i α :=
  .op (.waitDma2 sg (tWin T k) (gWin gb k) (View.wordExact_bits rfl) (View.wordExact_bits rfl)) fun _ => rest

/-- Issue a slot's transfers: the features' eight rows from `offx`, and the eight window gathers of the rows named by
    the list's eight entries from `offi`. -/
def issue (X : Memref sig .scVector .hbm S16384x2048 .f32) (T : Memref sig .scVector .hbm S2048x1024 .i32)
    (L : Memref sig .scVector .vmem S512 .i32) (xb : Memref sig .scVector .vmem S8x2048 .f32) (hxb : xb.IsWhole)
    (gb : Memref sig .scVector .vmem S8x1024 .i32) (sx sg : DmaSem sig)
    (offx : Fin 2 → Nat) (hx : ∀ a, offx a + S8x2048.size a ≤ S16384x2048.size a)
    (offi : Fin 1 → Nat) (hi : ∀ a, offi a + S8.size a ≤ S512.size a) (rest : TileProg F i α) : TileProg F i α :=
  .op (.enqueueDma (xWin X offx hx) (.here xb) (.dma sx) (View.wordExact_bits rfl) hxb.wordExact ⟨Or.inl rfl, trivial⟩) fun _ =>
  gat T gb (lWin L offi hi) sg 0 <| gat T gb (lWin L offi hi) sg 1 <| gat T gb (lWin L offi hi) sg 2 <|
  gat T gb (lWin L offi hi) sg 3 <| gat T gb (lWin L offi hi) sg 4 <| gat T gb (lWin L offi hi) sg 5 <|
  gat T gb (lWin L offi hi) sg 6 <| gat T gb (lWin L offi hi) sg 7 rest

/-- Await a slot's transfers. -/
def await (X : Memref sig .scVector .hbm S16384x2048 .f32) (T : Memref sig .scVector .hbm S2048x1024 .i32)
    (xb : Memref sig .scVector .vmem S8x2048 .f32) (hxb : xb.IsWhole)
    (gb : Memref sig .scVector .vmem S8x1024 .i32) (sx sg : DmaSem sig) (rest : TileProg F i α) : TileProg F i α :=
  .op (.waitDma2 sx (xWin X ![0, 0] inb_S16384x2048_S8x2048_0_0) xb (View.wordExact_bits rfl) hxb.wordExact) fun _ =>
  gwait T gb sg 0 <| gwait T gb sg 1 <| gwait T gb sg 2 <| gwait T gb sg 3 <|
  gwait T gb sg 4 <| gwait T gb sg 5 <| gwait T gb sg 6 <| gwait T gb sg 7 rest

/-- Load sixteen columns of the features' left half, of their right half and of the gathered words, at row `r` and
    the `u`-th sixteen columns of group `g`. -/
def load3 (xb : Memref sig .scVector .vmem S8x2048 .f32) (gb : Memref sig .scVector .vmem S8x1024 .i32)
    (r : Fin k0_t2_loop.trips) (g : Fin k0_t3_loop.trips) (u : Fin 8)
    (k : Vec F S1x16 .f32 → Vec F S1x16 .f32 → Vec F S1x16 .i32 → TileProg F i α) : TileProg F i α :=
  .op (.load xb (Rect.unit (s := S8x2048) (k0_off3 r g (BitVec.ofNat 32 u.val)) S1x16.size (k0_off3_inb r g u)).toLoadRect
    (View.loadsAt_vmem h_S1x16)) fun xl =>
  .op (.load xb (Rect.unit (s := S8x2048) (k0_off4 r g (BitVec.ofNat 32 u.val)) S1x16.size (k0_off4_inb r g u)).toLoadRect
    (View.loadsAt_vmem h_S1x16)) fun xr =>
  .op (.load gb (Rect.unit (s := S8x1024) (k0_off5 r g (BitVec.ofNat 32 u.val)) S1x16.size (k0_off5_inb r g u)).toLoadRect
    (View.loadsAt_vmem h_S1x16)) fun w => k xl xr w

/-- One group of 128 words of row `r`: each accumulator takes sixteen of the words. -/
def groupBody (i : grid0.Coords) (xb : Memref sig .scVector .vmem S8x2048 .f32) (gb : Memref sig .scVector .vmem S8x1024 .i32)
    (r : Fin k0_t2_loop.trips) (g : Fin k0_t3_loop.trips) (a : Acc F) : TileProg F i (Acc F) :=
  load3 xb gb r g 0 fun x0 y0 w0 => load3 xb gb r g 1 fun x1 y1 w1 => load3 xb gb r g 2 fun x2 y2 w2 =>
  load3 xb gb r g 3 fun x3 y3 w3 => load3 xb gb r g 4 fun x4 y4 w4 => load3 xb gb r g 5 fun x5 y5 w5 =>
  load3 xb gb r g 6 fun x6 y6 w6 => load3 xb gb r g 7 fun x7 y7 w7 =>
  pure (k0_pay1 a.1 x0 y0 w0, k0_pay1 a.2.1 x1 y1 w1, k0_pay1 a.2.2.1 x2 y2 w2, k0_pay1 a.2.2.2.1 x3 y3 w3,
    k0_pay1 a.2.2.2.2.1 x4 y4 w4, k0_pay1 a.2.2.2.2.2.1 x5 y5 w5, k0_pay1 a.2.2.2.2.2.2.1 x6 y6 w6,
    k0_pay1 a.2.2.2.2.2.2.2 x7 y7 w7)

/-- One row of a slot: its eight groups. -/
def rowBody (i : grid0.Coords) (xb : Memref sig .scVector .vmem S8x2048 .f32) (gb : Memref sig .scVector .vmem S8x1024 .i32)
    (r : Fin k0_t2_loop.trips) (a : Acc F) : TileProg F i (Acc F) :=
  Scf.Loop.for k0_t3_loop k0_t3_ok a (groupBody i xb gb r) >>= fun a => pure a

/-- A slot's eight rows, added to the accumulators. -/
def chunk (xb : Memref sig .scVector .vmem S8x2048 .f32) (gb : Memref sig .scVector .vmem S8x1024 .i32) (a : Acc F)
    (k : Acc F → TileProg F i α) : TileProg F i α :=
  Scf.Loop.for k0_t2_loop k0_t2_ok a (rowBody i xb gb) >>= k

/-- Fetch the tile's 512 entries of the list. -/
def fetch (I : Memref sig .scVector .hbm S16384 .i32) (L : Memref sig .scVector .vmem S512 .i32) (hL : L.IsWhole)
    (s : DmaSem sig) (off : Fin 1 → Nat) (h : ∀ a, off a + S512.size a ≤ S16384.size a) (rest : TileProg F i α) :
    TileProg F i α :=
  .op (.enqueueDma (I.slice (Rect.unit (s := S16384) off S512.size h) (fun _ => rfl)) (.here L) (.dma s)
    (View.wordExact_bits rfl) hL.wordExact ⟨Or.inl rfl, trivial⟩) fun _ =>
  .op (.waitDma2 s (I.slice (Rect.unit (s := S16384) off S512.size h) (fun _ => rfl)) L
    (View.wordExact_bits rfl) hL.wordExact) fun _ => rest

/-- The tile's row of the result array. -/
abbrev oRow (O : Memref sig .scVector .hbm S32x16 .f32) (i : grid0.Coords) : Memref sig .scVector .hbm S16 .f32 :=
  (O.slice (Rect.unit (s := S32x16) (k0_off47 i) S1x16.size (k0_off47_inb i)) (fun _ => rfl)).squeeze S16 squeezes_S1x16_S16

/-- Add the eight accumulators up in a tree, store the sixteen lanes and copy them to the tile's row of the result. -/
def finish (i : grid0.Coords) (O : Memref sig .scVector .hbm S32x16 .f32) (o : Memref sig .scVector .vmem S16 .f32)
    (ho : o.IsWhole) (s : DmaSem sig) (a : Acc F) : TileProg F i PUnit :=
  .op (.load o (Rect.unit (s := S16) ![0] S16.size inb_S16_S16_0).toLoadRect (View.loadsAt_vmem h_S16)) fun _ =>
  .op (.store o (Rect.unit (s := S16) ![0] S16.size inb_S16_S16_0)
    (k0_pay275 a.1 a.2.1 a.2.2.1 a.2.2.2.1 a.2.2.2.2.1 a.2.2.2.2.2.1 a.2.2.2.2.2.2.1 a.2.2.2.2.2.2.2)
    Finset.univ (View.stores_vmem_bits_univ h_S16 rfl) (.inl rfl)) fun _ =>
  .op (.enqueueDma o (.here (oRow O i)) (.dma s) ho.wordExact ((View.wordExact_bits rfl).reshape _ _) ⟨Or.inl rfl, trivial⟩) fun _ =>
  .op (.waitDma2 s o (oRow O i) ho.wordExact ((View.wordExact_bits rfl).reshape _ _)) fun _ => pure ⟨⟩

/-- The eight accumulators at zero. -/
def zeroAcc : Acc F := (k0_pay258, k0_pay259, k0_pay260, k0_pay261, k0_pay262, k0_pay263, k0_pay264, k0_pay265)

/-- The ring's eleven trips from zeroed accumulators. -/
def ring (body : Fin k0_t1_loop.trips → Acc F → TileProg F i (Acc F)) (k : Acc F → TileProg F i α) : TileProg F i α :=
  Scf.Loop.for k0_t1_loop k0_t1_ok zeroAcc body >>= k

end Blocks

section Body

variable (i : grid0.Coords)
  (arg2 : Memref sig .scVector .hbm S16384x2048 .f32) (harg2 : arg2.IsWhole)
  (arg3 : Memref sig .scVector .hbm S16384 .i32) (harg3 : arg3.IsWhole)
  (arg4 : Memref sig .scVector .hbm S2048x1024 .i32) (harg4 : arg4.IsWhole)
  (arg5 : Memref sig .scVector .hbm S32x16 .f32) (harg5 : arg5.IsWhole)
  (arg6 : Memref sig .scVector .vmem S512 .i32) (harg6 : arg6.IsWhole)
  (arg7 : Memref sig .scVector .vmem S8x2048 .f32) (harg7 : arg7.IsWhole)
  (arg8 : Memref sig .scVector .vmem S8x2048 .f32) (harg8 : arg8.IsWhole)
  (arg9 : Memref sig .scVector .vmem S8x2048 .f32) (harg9 : arg9.IsWhole)
  (arg10 : Memref sig .scVector .vmem S8x2048 .f32) (harg10 : arg10.IsWhole)
  (arg11 : Memref sig .scVector .vmem S8x2048 .f32) (harg11 : arg11.IsWhole)
  (arg12 : Memref sig .scVector .vmem S8x1024 .i32) (harg12 : arg12.IsWhole)
  (arg13 : Memref sig .scVector .vmem S8x1024 .i32) (harg13 : arg13.IsWhole)
  (arg14 : Memref sig .scVector .vmem S8x1024 .i32) (harg14 : arg14.IsWhole)
  (arg15 : Memref sig .scVector .vmem S8x1024 .i32) (harg15 : arg15.IsWhole)
  (arg16 : Memref sig .scVector .vmem S8x1024 .i32) (harg16 : arg16.IsWhole)
  (arg17 : Memref sig .scVector .vmem S16 .f32) (harg17 : arg17.IsWhole)
  (arg18 arg19 arg20 arg21 arg22 arg23 arg24 arg25 arg26 arg27 v516_r0 v516_r1 : DmaSems sig S_)

/-- One trip of the ring: each slot in turn is awaited, added up and issued again for the chunk five ahead. -/
def ringBody (t : Fin k0_t1_loop.trips) (acc : Acc F) : TileProg F i (Acc F) :=
    await arg2 arg4 arg7 harg7 arg12 arg18.sem arg23.sem <|
    chunk arg7 arg12 acc fun a1 =>
    issue arg2 arg4 arg6 arg7 harg7 arg12 arg18.sem arg23.sem (k0_off6 i t 0#32) (k0_off6_inb i t 0) (k0_off7 t 0#32) (k0_off7_inb t 0) <|
    await arg2 arg4 arg8 harg8 arg13 arg19.sem arg24.sem <|
    chunk arg8 arg13 a1 fun a2 =>
    issue arg2 arg4 arg6 arg8 harg8 arg13 arg19.sem arg24.sem (k0_off6 i t 1#32) (k0_off6_inb i t 1) (k0_off7 t 1#32) (k0_off7_inb t 1) <|
    await arg2 arg4 arg9 harg9 arg14 arg20.sem arg25.sem <|
    chunk arg9 arg14 a2 fun a3 =>
    issue arg2 arg4 arg6 arg9 harg9 arg14 arg20.sem arg25.sem (k0_off6 i t 2#32) (k0_off6_inb i t 2) (k0_off7 t 2#32) (k0_off7_inb t 2) <|
    await arg2 arg4 arg10 harg10 arg15 arg21.sem arg26.sem <|
    chunk arg10 arg15 a3 fun a4 =>
    issue arg2 arg4 arg6 arg10 harg10 arg15 arg21.sem arg26.sem (k0_off6 i t 3#32) (k0_off6_inb i t 3) (k0_off7 t 3#32) (k0_off7_inb t 3) <|
    await arg2 arg4 arg11 harg11 arg16 arg22.sem arg27.sem <|
    chunk arg11 arg16 a4 fun a5 =>
    issue arg2 arg4 arg6 arg11 harg11 arg16 arg22.sem arg27.sem (k0_off6 i t 4#32) (k0_off6_inb i t 4) (k0_off7 t 4#32) (k0_off7_inb t 4) <|
    pure a5

/-- The tile's program in blocks: fetch the list; fill the five slots; eleven trips of the ring (chunks 0 to 54); the
    last nine chunks, the first four of them issuing the last four; the result. -/
def tileProg : TileProg F i PUnit :=
  fetch arg3 arg6 harg6 v516_r0.sem (k0_off1 i) (k0_off1_inb i) <|
  issue arg2 arg4 arg6 arg7 harg7 arg12 arg18.sem arg23.sem (k0_off2 i 0#32) (k0_off2_inb i 0) ![0] inb_S512_S8_0 <|
  issue arg2 arg4 arg6 arg8 harg8 arg13 arg19.sem arg24.sem (k0_off2 i 8#32) (k0_off2_inb i 1) ![8] inb_S512_S8_8 <|
  issue arg2 arg4 arg6 arg9 harg9 arg14 arg20.sem arg25.sem (k0_off2 i 16#32) (k0_off2_inb i 2) ![16] inb_S512_S8_16 <|
  issue arg2 arg4 arg6 arg10 harg10 arg15 arg21.sem arg26.sem (k0_off2 i 24#32) (k0_off2_inb i 3) ![24] inb_S512_S8_24 <|
  issue arg2 arg4 arg6 arg11 harg11 arg16 arg22.sem arg27.sem (k0_off2 i 32#32) (k0_off2_inb i 4) ![32] inb_S512_S8_32 <|
  ring (ringBody i arg2 arg4 arg6 arg7 harg7 arg8 harg8 arg9 harg9 arg10 harg10 arg11 harg11 arg12 arg13 arg14 arg15 arg16 arg18 arg19 arg20 arg21 arg22 arg23 arg24 arg25 arg26 arg27) fun a0 =>
  await arg2 arg4 arg7 harg7 arg12 arg18.sem arg23.sem <|
  chunk arg7 arg12 a0 fun a1 =>
  issue arg2 arg4 arg6 arg7 harg7 arg12 arg18.sem arg23.sem (k0_off2 i 480#32) (k0_off2_inb i 5) ![480] inb_S512_S8_480 <|
  await arg2 arg4 arg8 harg8 arg13 arg19.sem arg24.sem <|
  chunk arg8 arg13 a1 fun a2 =>
  issue arg2 arg4 arg6 arg8 harg8 arg13 arg19.sem arg24.sem (k0_off2 i 488#32) (k0_off2_inb i 6) ![488] inb_S512_S8_488 <|
  await arg2 arg4 arg9 harg9 arg14 arg20.sem arg25.sem <|
  chunk arg9 arg14 a2 fun a3 =>
  issue arg2 arg4 arg6 arg9 harg9 arg14 arg20.sem arg25.sem (k0_off2 i 496#32) (k0_off2_inb i 7) ![496] inb_S512_S8_496 <|
  await arg2 arg4 arg10 harg10 arg15 arg21.sem arg26.sem <|
  chunk arg10 arg15 a3 fun a4 =>
  issue arg2 arg4 arg6 arg10 harg10 arg15 arg21.sem arg26.sem (k0_off2 i 504#32) (k0_off2_inb i 8) ![504] inb_S512_S8_504 <|
  await arg2 arg4 arg11 harg11 arg16 arg22.sem arg27.sem <|
  chunk arg11 arg16 a4 fun a5 =>
  await arg2 arg4 arg7 harg7 arg12 arg18.sem arg23.sem <|
  chunk arg7 arg12 a5 fun a6 =>
  await arg2 arg4 arg8 harg8 arg13 arg19.sem arg24.sem <|
  chunk arg8 arg13 a6 fun a7 =>
  await arg2 arg4 arg9 harg9 arg14 arg20.sem arg25.sem <|
  chunk arg9 arg14 a7 fun a8 =>
  await arg2 arg4 arg10 harg10 arg15 arg21.sem arg26.sem <|
  chunk arg10 arg15 a8 fun a9 =>
  finish i arg5 arg17 harg17 v516_r1.sem a9

/-- The printed ring trip is the trip in blocks. -/
theorem k0_t1_body_eq (v2 : BitVec 32) (z0 z1 z2 z3 z4 z5 : FVec F S16 .f32) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 arg26 arg27 v516_r0 v516_r1 v2 z0 z1 z2 z3 z4 z5
      = ringBody i arg2 arg4 arg6 arg7 harg7 arg8 harg8 arg9 harg9 arg10 harg10 arg11 harg11 arg12 arg13 arg14 arg15 arg16 arg18 arg19 arg20 arg21 arg22 arg23 arg24 arg25 arg26 arg27 := by
  funext t ⟨b0, b1, b2, b3, b4, b5, b6, b7⟩
  simp only [k0_t1_body, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, bind_assoc, pure_bind]
  rfl

/-- The printed body is the program in blocks. -/
theorem cc0_body_eq : cc0_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 arg26 arg27 v516_r0 v516_r1 = tileProg i arg2 arg3 arg4 arg5 arg6 harg6 arg7 harg7 arg8 harg8 arg9 harg9 arg10 harg10 arg11 harg11 arg12 arg13 arg14 arg15 arg16 arg17 harg17 arg18 arg19 arg20 arg21 arg22 arg23 arg24 arg25 arg26 arg27 v516_r0 v516_r1 := by
  simp only [cc0_body, k0_part111_eq_skeleton, k0_part111_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, k0_part104_eq_skeleton, k0_part104_skel, k0_part105_eq_skeleton, k0_part105_skel, k0_part106_eq_skeleton, k0_part106_skel, k0_part107_eq_skeleton, k0_part107_skel, k0_part108_eq_skeleton, k0_part108_skel, k0_part109_eq_skeleton, k0_part109_skel, k0_part110_eq_skeleton, k0_part110_skel, k0_t1_body_eq, bind_assoc, pure_bind]
  rfl

end Body

end Cert.Proof

end
-- ==== Proof.Gather.lean ====
/-
  Several indirect gathers outstanding on ONE semaphore: each gather of the kernel is a stream of eight rows, and a
  slot's eight gathers (one per 128-column slice of the table) all signal the slot's one semaphore. The rule of this
  file issues one such gather as the next rows of a batch of equal-sized transfers (`Transfers.Batch`).
-/
module

public import Idealize.ShloMosaic.Lib.Batch
public import Idealize.ShloMosaic.Lib.SparseCore.Ops
public import Idealize.ShloMosaic.Lib.SparseCore.Stream
public import Idealize.ShloMosaic.Lib.Tactic

@[expose] public section

set_option maxRecDepth 16384

noncomputable section

namespace Cert.Proof.Gather

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.SparseCore (enqueueIndirectGather gatherRow gatherPayload rows)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants)
  (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What the landing of row `i` of a gather brings: the destination's row `i` holding the row of the source that
    entry `i` of the list names, that entry's share of the list, and row `i`'s piece of the source's share. -/
def rowLanded (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (r : Fin (s.size hg.axis') → Fin (s₀.size hg.axis))
    (i : Fin (s.size hg.axis')) : sProp 𝕄 :=
  iprop(((dst.view.loc c ↦[(dst.view.slice (s.rowRect hg.axis' i)).set]{fullShare}
            ((dst.view.slice (s.rowRect hg.axis' i)).write (Elt F) fd
              (fun x => src.view.read (Elt F) fs (hg.rowIdx (r i) x)) Finset.univ))
        ∗ (offs.view.loc c ↦[{offs.view.emb (si.rowMajor.symm (i.cast hn.symm))}]{qo} fo))
      ∗ (src.view.loc c ↦[src.view.set]{pieceOf q _ ho i} fs))

/-- What a landed row brings can be kept in an invariant. -/
instance rowLanded_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (r : Fin (s.size hg.axis') → Fin (s₀.size hg.axis)) (i : Fin (s.size hg.axis')) :
    Storable (upEmb : UEmb _ 𝕄) (rowLanded c src dst hg offs hn ho q qo fs fd fo r i) := by
  unfold rowLanded; infer_instance

/-- All rows landed are the whole gather landed: the destination written with the gathered rows, the shares of the
    source and of the list whole again. -/
theorem rowLanded_all {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {q qo : PosShare TreeShare} {fs : Buf (Elt F) (src.view.loc c)} {fd : Buf (Elt F) (dst.view.loc c)}
    {fo : Buf (Elt F) (offs.view.loc c)} {r : Fin (s.size hg.axis') → Fin (s₀.size hg.axis)} :
    (bigSep Finset.univ (rowLanded c src dst hg offs hn ho q qo fs fd fo r) : sProp 𝕄)
      ⊢ iprop((dst.view.loc c ↦[dst.view.set]{fullShare}
                (dst.view.write (Elt F) fd (gatherPayload hg (src.view.read (Elt F) fs) r) Finset.univ))
          ∗ (src.view.loc c ↦[src.view.set]{q} fs) ∗ (offs.view.loc c ↦[offs.view.set]{qo} fo)) := by
  have hen : Function.Bijective fun i : Fin (s.size hg.axis') => si.rowMajor.symm (i.cast hn.symm) :=
    si.rowMajor.symm.bijective.comp (finCongr hn.symm).bijective
  let w : (i : Fin (s.size hg.axis')) → (s.rowShape hg.axis').Idx → Elt F e := fun i x => src.view.read (Elt F) fs (hg.rowIdx (r i) x)
  have hw := pointsTo_rows_write (Ix := Ix) (Name := Name) (U := U) (Lvl := Lvl) c dst.view hg.axis' fd w
    (gatherPayload hg (src.view.read (Elt F) fs) r) (fun i x => by unfold gatherPayload; rw [Shape.Gathers.idx_rowRect_emb])
  unfold rowLanded
  iintro H
  ihave H := Transfers.bigSep_sep_out _ _ _ $$ H
  icases H with ⟨H, Hs⟩
  ihave H := Transfers.bigSep_sep_out _ _ _ $$ H
  icases H with ⟨Hd, Ho⟩
  isplitl [Hd]
  · exact hw
  isplitl [Hs]
  · iapply (Entails.of_eq (pointsTo_piecesOf src.view.set fs ho q).symm) $$ Hs
  · iapply (Entails.of_eq (pointsTo_entries c offs.view _ hen qo fo).symm) $$ Ho

/-- The first `o` of the transfers pending from `j` on, and those pending from `j + o` on. -/
theorem pending_split {n : ℕ} (Φ : Fin n → sProp 𝕄) : ∀ (o j : ℕ) (h : j + o ≤ n),
    (bigSep (pending j) Φ : sProp 𝕄)
      = iprop((bigSep Finset.univ fun i : Fin o => Φ ⟨j + i.val, by omega⟩) ∗ bigSep (pending (j + o)) Φ)
  | 0, j, h => by
    rw [show (Finset.univ : Finset (Fin 0)) = ∅ from rfl, bigSep_empty]
    exact Entails.antisymm emp_sep.2 emp_sep.1
  | o + 1, j, h => by
    rw [bigSep_pending_step Φ j (by omega), pending_split Φ o (j + 1) (by omega),
      bigSep_univ_succ (Ix := Ix) (Name := Name) (U := U) (Lvl := Lvl) (m := o)]
    have e : (fun i : Fin o => Φ ⟨j + 1 + i.val, by omega⟩) = fun i : Fin o => Φ ⟨j + i.succ.val, by simp; omega⟩ := by
      funext i; congr 1; ext; simp; omega
    rw [e, show j + 1 + o = j + (o + 1) by omega]
    have e0 : Φ ⟨j + (0 : Fin (o + 1)).val, by simp; omega⟩ = Φ ⟨j, by omega⟩ := by congr 1
    rw [e0]
    refine Entails.antisymm (show (_ : sProp 𝕄) ⊢ _ from ?_) (show (_ : sProp 𝕄) ⊢ _ from ?_)
    · iintro ⟨H, H', H''⟩
      isplitr [H'']
      · isplitl [H] <;> iassumption
      · iexact H''
    · iintro ⟨⟨H, H'⟩, H''⟩
      isplitl [H]; · iexact H
      isplitl [H'] <;> iassumption

/-- ONE GATHER OF A BATCH. Its cell carries a batch of transfers of `N` units each; the gather's rows are the batch's
    next transfers (from the `j`-th on), each `N` units, each row's landing giving what the batch delivers at its place.
    Holding shares of the source and of the list (all of whose words name rows of the source) and the destination, the
    tile issues the gather and holds the batch with the gather's rows issued. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ} (ho : 0 < s.size hg.axis')
    (ι : Ix) (N : ℕ) (hN : ∀ i, (dst.slice (s.rowRect hg.axis' i) (s.stride_rowRect hg.axis' i)).view.dmaCredit = N)
    (hj : j + s.size hg.axis' ≤ n) (hu : u ≤ j * N)
    (hin : ∀ x, (offs.view.read (Elt F) fo x).toNat < s₀.size hg.axis)
    (hD : ∀ i : Fin (s.size hg.axis'),
      (rowLanded c src dst hg offs hn ho q qo fs fd fo (rows (offs.view.read (Elt F) fo) hn hin) i : sProp 𝕄)
        ⊢ D ⟨j + i.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [SparseCore.enqueueIndirectGather_bind]
  let r : Fin (s.size hg.axis') → Fin (s₀.size hg.axis) := rows (offs.view.read (Elt F) fo) hn hin
  let St : Stream nD τ sig (Elt F) :=
    Stream.issued c offs.view hn sem (fun i w => (SparseCore.rowOf (s₀.size hg.axis) w).map (gatherRow c src dst hg sem hsrc he hsp hr i)) 0
  let rd : Fin (s.size hg.axis') → RowDma τ sig (Elt F) c.2 sem := fun i => gatherRow c src dst hg sem hsrc he hsp hr i (r i)
  have hagree : St.RowsAgree := by
    intro i x x' ρ ρ' h h'
    obtain ⟨_, _, rfl⟩ := Option.map_eq_some_iff.mp h
    obtain ⟨_, _, rfl⟩ := Option.map_eq_some_iff.mp h'
    rfl
  have hrow : ∀ i, St.row i (St.word fo i) = some (rd i) := fun i => by
    change (SparseCore.rowOf (s₀.size hg.axis) (offs.view.read (Elt F) fo (St.entry i))).map _ = _
    rw [SparseCore.rowOf_of_lt (hin _)]; rfl
  have hen : Function.Bijective St.entry := si.rowMajor.symm.bijective.comp (finCongr hn.symm).bijective
  have hsum : ∑ i, (rd i).dst.view.dmaCredit = s.size hg.axis' * N := by
    rw [Finset.sum_congr rfl fun i _ => hN i, Finset.sum_const, Finset.card_univ, Fintype.card_fin, smul_eq_mul]
  unfold Batch
  iintro ⟨Hs, Hd, Ho, ⟨%γ, %γ₀, %κ, #Hinv, HI, H0, Hcred⟩⟩ Hk
  ihave HI := (Entails.of_eq (pending_split (fun t => count EC (γ t) 0) (s.size hg.axis') j hj)) $$ HI
  icases HI with ⟨Hγ, HI⟩
  ihave Hd := (Entails.of_eq (pointsTo_rows c dst.view hg.axis' fullShare fd)) $$ Hd
  ihave Ho := (Entails.of_eq (pointsTo_entries c offs.view St.entry hen qo fo)) $$ Ho
  ihave Hs := (Entails.of_eq (pointsTo_piecesOf src.view.set fs ho q)) $$ Hs
  -- one row: its entry of the list, and behind it the row's resources
  have hres : ∀ i, iprop(inv κ (batchBody EC (c, SemLoc.dma sem) N D γ γ₀)
        ∗ ((((dst.view.loc c ↦[(dst.view.slice (s.rowRect hg.axis' i)).set]{fullShare} fd) ∗ St.heldEntry qo fo i)
          ∗ (src.view.loc c ↦[src.view.set]{pieceOf q _ ho i} fs)) ∗ count EC (γ ⟨j + i.val, by omega⟩) 0))
      ⊢ iprop(St.heldEntry qo fo i ∗ (St.heldEntry qo fo i -∗ rowRes c (rd i))) := fun i => by
    iintro ⟨#Hinv, ⟨⟨Hr, He⟩, Hq⟩, Hc⟩
    isplitl [He]; · iexact He
    iintro He
    unfold rowRes
    iexists pieceOf q _ ho i, fs, iprop((dst.view.loc c ↦[(dst.view.slice (s.rowRect hg.axis' i)).set]{fullShare}
      ((dst.view.slice (s.rowRect hg.axis' i)).write (Elt F) fd (fun x => src.view.read (Elt F) fs (hg.rowIdx (r i) x)) Finset.univ)) ∗ St.heldEntry qo fo i)
    isplitl [Hq]; · iexact Hq
    isplitl [Hr He]
    · iapply writeUpdate_frame
      isplitl [Hr]
      · iapply (pointsTo_writeUpdate c (v := dst.view.slice (s.rowRect hg.axis' i)) subset_rfl) $$ Hr
      · iexact He
    · have hcr := batch_creditUpdate (g := (c, SemLoc.dma sem)) (N := N) (γ := γ) (γ₀ := γ₀) (ι := κ) EC ⟨j + i.val, by omega⟩ (hD i)
      have hNi : (rd i).dst.view.dmaCredit = N := hN i
      rw [← hNi] at hcr ⊢
      iapply hcr
      isplitr; · rw [hNi]; iexact Hinv
      iexact Hc
  iapply (wp_enqueueIndirectDma 𝒱 c bd Set.univ (qo := qo) (fo := fo) (rd := rd)
    ι (s.size hg.axis' * N) hagree hrow hsum) $$ [Hd Ho Hs Hγ]
  · unfold Stream.res
    ihave H := Transfers.bigSep_sep_in _ _ _ $$ [Hd Ho]; · isplitl [Hd] <;> iassumption
    ihave H := Transfers.bigSep_sep_in _ _ _ $$ [H Hs]; · isplitl [H] <;> iassumption
    ihave H := Transfers.bigSep_sep_in _ _ _ $$ [H Hγ]; · isplitl [H] <;> iassumption
    iapply (Transfers.bigSep_mono_pers Finset.univ _ _ _ fun i _ => hres i)
    isplitr; · iexact Hinv
    iexact H
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.Gather

end
-- ==== Proof.Slot.lean ====
/-
  A slot of the kernel's ring: what a tile holds of it when its buffers are free, when its transfers are in flight and
  when they have landed, and the rules of the two blocks that move it between these.
-/
module

public import proofs.«01_k».proof.Proof.Blocks
public import proofs.«01_k».proof.Proof.Gather
public import Idealize.ShloMosaic.Lib.ValueIdxCore

@[expose] public section

set_option maxRecDepth 16384

noncomputable section

namespace Cert.Proof

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.SparseCore (enqueueIndirectGather gatherRow gatherPayload rows)
open Idealize.ShloMosaic.ValueIdx (ix1 ix2)
open Cert.KernelIdeal Cert.KernelIdeal.Gen
open Cert.Proof.Gather

variable {F : FTy → Type} [FloatOps F]

/-! ## What a slot's transfers bring -/

/-- Eight rows of the features, from `off`. -/
def xRows (vX : S16384x2048.Idx → Elt F .f32) (off : Fin 2 → Nat)
    (h : ∀ a, off a + S8x2048.size a ≤ S16384x2048.size a) : S8x2048.Idx → Elt F .f32 :=
  fun j => vX ((Rect.unit (s := S16384x2048) off S8x2048.size h).emb j)

/-- The row of the table that entry `r` of eight entries of the list, from `off`, names. -/
def rowAt (vL : S512.Idx → Elt F .i32) (off : Fin 1 → Nat) (h : ∀ a, off a + S8.size a ≤ S512.size a) (r : Fin 8) : Fin 2048 :=
  ⟨(vL ((Rect.unit (s := S512) off S8.size h).emb (ix1 r)) : BitVec 32).toNat % 2048, Nat.mod_lt _ (by decide)⟩

/-- The eight rows of the table that eight entries of the list, from `off`, name. -/
def gRows (vT : S2048x1024.Idx → Elt F .i32) (vL : S512.Idx → Elt F .i32) (off : Fin 1 → Nat)
    (h : ∀ a, off a + S8.size a ≤ S512.size a) : S8x1024.Idx → Elt F .i32 :=
  fun j => vT (ix2 (rowAt (F := F) vL off h (j 0)) (j 1))

/-- A gather's payload for window `k` is that window of the gathered rows. -/
theorem payload_eq (T : Memref sig .scVector .hbm S2048x1024 .i32) (L : Memref sig .scVector .vmem S512 .i32)
    (ft : T.view.ty.Contents (Elt F)) (fl : L.view.ty.Contents (Elt F)) (off : Fin 1 → Nat)
    (h : ∀ a, off a + S8.size a ≤ S512.size a)
    (hfl : ∀ y, (L.view.read (Elt F) fl y : BitVec 32).toNat < 2048) (k : Fin 8) (x : S8x128.Idx) :
    gatherPayload gathers_S2048x128_S8x128 ((tWin T k).view.read (Elt F) ft)
        (rows (si := S8) ((lWin L off h).view.read (Elt F) fl) rfl (fun _ => hfl _)) x
      = gRows (T.view.read (Elt F) ft) (L.view.read (Elt F) fl) off h
          ((Rect.unit (s := S8x1024) ![0, 128 * k.val] S8x128.size (inbG k)).emb x) := by
  unfold gatherPayload gRows
  show T.view.read (Elt F) ft _ = _
  congr 1
  funext a
  apply Fin.ext
  match a with
  | ⟨0, _⟩ =>
    have e := congrArg Fin.val (Shape.Gathers.idx_axis gathers_S2048x128_S8x128
      (rows (si := S8) ((lWin L off h).view.read (Elt F) fl) rfl (fun _ => hfl _)) x)
    show 0 + 1 * (gathers_S2048x128_S8x128.idx _ x 0).val = (rowAt (F := F) _ off h _).val
    have e0 : (gathers_S2048x128_S8x128.idx (rows (si := S8) ((lWin L off h).view.read (Elt F) fl) rfl (fun _ => hfl _)) x 0).val
        = (rows (si := S8) (z := 2048) ((lWin L off h).view.read (Elt F) fl) rfl (fun _ => hfl _) (x 0)).val := e
    rw [e0]
    unfold rowAt rows
    dsimp only
    rw [Nat.mod_eq_of_lt (hfl _), Nat.zero_add, Nat.one_mul]
    refine congrArg (fun y => (L.view.read (Elt F) fl ((Rect.unit (s := S512) off S8.size h).emb y) : BitVec 32).toNat) ?_
    exact (S8.rowMajor.symm_apply_eq).2 (Fin.ext (by
      rw [Shape.rowMajor_val_one]; show (x 0).val = 0 + 1 * (x 0).val; omega))
  | ⟨1, _⟩ =>
    have e1 := Shape.Gathers.idx_of_ne gathers_S2048x128_S8x128
      (rows (si := S8) ((lWin L off h).view.read (Elt F) fl) rfl (fun _ => hfl _)) x (1 : Fin 2) (by decide)
    show 128 * k.val + 1 * (gathers_S2048x128_S8x128.idx _ x 1).val = 128 * k.val + 1 * (x 1).val
    rw [e1]; rfl

/-! ## Holding a slot -/

section Slot

variable {Ix : Type} [DecidableEq Ix] {Name : Type} [DecidableEq Name] [Infinite Name]
variable {U : Type} [URA U] {Lvl : Type} [Preorder Lvl]

local notation "𝕄" => MT nD τ sig Ix (Elt F) Name U Lvl

/-- The tile at grid point `i`, as a thread of device `d`. -/
abbrev tileT (d : Dev nD) (i : grid0.Coords) : Thread nD τ := (d, .scVector ((i 0).castLE hcore0) ((i 1).castLE hsub0))

variable (EC : UEmb Counters (MT nD τ sig Ix (Elt F) Name U Lvl))
  [EC.LandsIn (upEmb : UEmb _ (MT nD τ sig Ix (Elt F) Name U Lvl))] (ι : Ix)
variable {defs : Defs nD τ sig (Elt F) Λ₀} (𝒱 : Variants) (bd : Option 𝒱.V)
variable (d : Dev nD) (i : grid0.Coords)
  (X : Memref sig .scVector .hbm S16384x2048 .f32) (T : Memref sig .scVector .hbm S2048x1024 .i32)
  (L : Memref sig .scVector .vmem S512 .i32)
  (xb : Memref sig .scVector .vmem S8x2048 .f32) (gb : Memref sig .scVector .vmem S8x1024 .i32) (sx sg : DmaSem sig)
  (qx qt ql : PosShare TreeShare)
  (fx : Buf (Elt F) (X.view.loc (tileT d i))) (ft : Buf (Elt F) (T.view.loc (tileT d i))) (fl : Buf (Elt F) (L.view.loc (tileT d i)))

/-- The shares of the features, the table and the list that a slot holds. -/
def slotShares : sProp 𝕄 :=
  iprop((X.view.loc (tileT d i) ↦[Finset.univ]{qx} fx) ∗ (T.view.loc (tileT d i) ↦[Finset.univ]{qt} ft)
    ∗ (L.view.loc (tileT d i) ↦[Finset.univ]{ql} fl))

/-- A slot whose buffers hold `vx` and `vg` and that has nothing outstanding. -/
def slotReady (vx : S8x2048.Idx → Elt F .f32) (vg : S8x1024.Idx → Elt F .i32) : sProp 𝕄 :=
  iprop(∃ (f : Buf (Elt F) (xb.view.loc (tileT d i))) (g : Buf (Elt F) (gb.view.loc (tileT d i))),
    ⌜xb.view.read (Elt F) f = vx ∧ gb.view.read (Elt F) g = vg⌝
    ∗ (xb.view.loc (tileT d i) ↦[Finset.univ]{fullShare} f) ∗ (gb.view.loc (tileT d i) ↦[Finset.univ]{fullShare} g)
    ∗ slotShares d i X T L qx qt ql fx ft fl
    ∗ semVal (tileT d i, .dma sx) 0 ∗ semVal (tileT d i, .dma sg) 0)

/-- A slot that has nothing outstanding, whatever its buffers hold. -/
def slotIdle : sProp 𝕄 :=
  iprop(∃ (vx : S8x2048.Idx → Elt F .f32) (vg : S8x1024.Idx → Elt F .i32),
    slotReady d i X T L xb gb sx sg qx qt ql fx ft fl vx vg)

variable {L} (hfl : ∀ y, (L.view.read (Elt F) fl y : BitVec 32).toNat < 2048)

/-- What row `r` of the gather of window `k` brings when it lands. -/
def rowD (offi : Fin 1 → Nat) (hi : ∀ a, offi a + S8.size a ≤ S512.size a) (g : Buf (Elt F) (gb.view.loc (tileT d i)))
    (k : Fin 8) (r : Fin 8) : sProp 𝕄 :=
  rowLanded (tileT d i) (tWin T k) (gWin gb k) gathers_S2048x128_S8x128 (lWin L offi hi) rfl (by decide) qt
    (pieceOf ql 8 (by decide) k) ft g fl (rows (si := S8) ((lWin L offi hi).view.read (Elt F) fl) rfl (fun _ => hfl _)) r

/-- What the 64 gathered rows of a slot bring, in the order of their issue. -/
def slotD (offi : Fin 1 → Nat) (hi : ∀ a, offi a + S8.size a ≤ S512.size a) (g : Buf (Elt F) (gb.view.loc (tileT d i)))
    (t : Fin 64) : sProp 𝕄 :=
  rowD d i T gb qt ql ft fl hfl offi hi g ((finProdFinEquiv (m := 8) (n := 8)).symm t).1 ((finProdFinEquiv (m := 8) (n := 8)).symm t).2

instance slotD_storable (offi : Fin 1 → Nat) (hi : ∀ a, offi a + S8.size a ≤ S512.size a)
    (g : Buf (Elt F) (gb.view.loc (tileT d i))) (t : Fin 64) :
    Storable (upEmb : UEmb _ 𝕄) (slotD d i T gb qt ql ft fl hfl offi hi g t) := by
  unfold slotD rowD
  exact rowLanded_storable (tileT d i) _ _ _ _ _ _ _ _ _ _ _ _ _

/-- A slot with its transfers in flight: the features' rows from `offx`, the table's rows that the list's entries from
    `offi` name. -/
def slotFlight (offx : Fin 2 → Nat) (hx : ∀ a, offx a + S8x2048.size a ≤ S16384x2048.size a)
    (offi : Fin 1 → Nat) (hi : ∀ a, offi a + S8.size a ≤ S512.size a) : sProp 𝕄 :=
  iprop(∃ (f : Buf (Elt F) (xb.view.loc (tileT d i))) (g : Buf (Elt F) (gb.view.loc (tileT d i))),
    Flight EC (tileT d i) (.dma sx) ι xb.view.dmaCredit
      iprop((xb.view.loc (tileT d i) ↦[Finset.univ]{fullShare} (xb.view.write (Elt F) f ((xWin X offx hx).view.read (Elt F) fx) Finset.univ))
        ∗ (X.view.loc (tileT d i) ↦[(xWin X offx hx).view.set]{qx} fx))
    ∗ Batch EC (tileT d i) (.dma sg) ι 4096 (slotD d i T gb qt ql ft fl hfl offi hi g) 64 0
    ∗ (X.view.loc (tileT d i) ↦[Finset.univ \ (xWin X offx hx).view.set]{qx} fx)
    ∗ (L.view.loc (tileT d i) ↦[Finset.univ \ (lWin L offi hi).view.set]{ql} fl))

/-- The units a gathered row of 128 words credits. -/
theorem credit_row (k : Fin 8) (r : Fin (S8x128.size gathers_S2048x128_S8x128.axis')) :
    ((gWin gb k).slice (S8x128.rowRect gathers_S2048x128_S8x128.axis' r) (S8x128.stride_rowRect _ r)).view.dmaCredit = 4096 := by rfl

/-- The units a wait for a gather consumes. -/
theorem credit_win (k : Fin 8) : (gWin gb k).view.dmaCredit = 8 * 4096 := by rfl

/-- The windows of a slot's gathered rows, and those of the table, are disjoint. -/
theorem win_disjoint {κ : Kind} {sp : Space} {R : Nat} (v : View sig κ sp ⟨2, ![R, 1024]⟩ .i32)
    (h : ∀ k : Fin 8, ∀ a, (![0, 128 * k.val] : Fin 2 → Nat) a + (![R, 128] : Fin 2 → Nat) a ≤ (![R, 1024] : Fin 2 → Nat) a)
    (k k' : Fin 8) (hk : k ≠ k') :
    Disjoint (v.slice (Rect.unit (s := ⟨2, ![R, 1024]⟩) ![0, 128 * k.val] ![R, 128] (h k))).set
      (v.slice (Rect.unit (s := ⟨2, ![R, 1024]⟩) ![0, 128 * k'.val] ![R, 128] (h k'))).set := by
  rw [View.set_slice, View.set_slice, Finset.disjoint_map, Finset.disjoint_left]
  intro j hj hj'
  have h1 := Rect.mem_set_unit.mp hj 1
  have h2 := Rect.mem_set_unit.mp hj' 1
  simp only [Matrix.cons_val_one, Matrix.cons_val_zero] at h1 h2
  omega

/-- They cover it. -/
theorem win_cover {κ : Kind} {sp : Space} {R : Nat} (v : View sig κ sp ⟨2, ![R, 1024]⟩ .i32)
    (h : ∀ k : Fin 8, ∀ a, (![0, 128 * k.val] : Fin 2 → Nat) a + (![R, 128] : Fin 2 → Nat) a ≤ (![R, 1024] : Fin 2 → Nat) a) :
    (Finset.univ : Finset (Fin 8)).biUnion
      (fun k => (v.slice (Rect.unit (s := ⟨2, ![R, 1024]⟩) ![0, 128 * k.val] ![R, 128] (h k))).set) = v.set := by
  ext y
  simp only [Finset.mem_biUnion, Finset.mem_univ, true_and, View.set_slice, Finset.mem_map]
  constructor
  · rintro ⟨k, j, _, rfl⟩; exact v.emb_mem_set j
  · intro hy
    obtain ⟨j, -, rfl⟩ := Finset.mem_map.mp hy
    have h0 : (j 0).val < R := (j 0).isLt
    have h1 : (j 1).val < 1024 := (j 1).isLt
    refine ⟨⟨(j 1).val / 128, by omega⟩, j, Rect.mem_set_unit.mpr fun a => ?_, rfl⟩
    match a with
    | ⟨0, _⟩ => exact ⟨Nat.zero_le _, by show (j 0).val < 0 + R; omega⟩
    | ⟨1, _⟩ => exact ⟨by show 128 * ((j 1).val / 128) ≤ (j 1).val; omega,
        by show (j 1).val < 128 * ((j 1).val / 128) + 128; omega⟩

/-- Window `k`'s resources before its gather is issued. -/
def winRes (offi : Fin 1 → Nat) (hi : ∀ a, offi a + S8.size a ≤ S512.size a) (g : Buf (Elt F) (gb.view.loc (tileT d i)))
    (k : Fin 8) : sProp 𝕄 :=
  iprop((T.view.loc (tileT d i) ↦[(tWin T k).view.set]{qt} ft) ∗ (gb.view.loc (tileT d i) ↦[(gWin gb k).view.set]{fullShare} g)
    ∗ (L.view.loc (tileT d i) ↦[(lWin L offi hi).view.set]{pieceOf ql 8 (by decide) k} fl))

variable {α : Type} {Q : α → sProp (MT nD τ sig Ix (Elt F) Name U Lvl)} {rest : TileProg F i α}

/-- The `r`-th row of the `k`-th of eight groups of eight. -/
theorem pair_symm (k r : Fin 8) (h : 8 * k.val + r.val < 8 * 8) :
    (finProdFinEquiv (m := 8) (n := 8)).symm ⟨8 * k.val + r.val, h⟩ = (k, r) := by
  rw [Equiv.symm_apply_eq]; apply Fin.ext; rw [finProdFinEquiv_apply_val]; show 8 * k.val + r.val = r.val + 8 * k.val; omega

/-- What row `r` of window `k` brings is what transfer `8 k + r` of the slot brings. -/
theorem row_slotD (offi : Fin 1 → Nat) (hi : ∀ a, offi a + S8.size a ≤ S512.size a) (g : Buf (Elt F) (gb.view.loc (tileT d i)))
    (k r : Fin 8) (h : 8 * k.val + r.val < 8 * 8) :
    (rowD d i T gb qt ql ft fl hfl offi hi g k r : sProp 𝕄) ⊢ slotD d i T gb qt ql ft fl hfl offi hi g ⟨8 * k.val + r.val, h⟩ := by
  unfold slotD
  rw [pair_symm k r h]

/-- Issue the gather of window `k`. -/
theorem wp_gat (offi : Fin 1 → Nat) (hi : ∀ a, offi a + S8.size a ≤ S512.size a) (g : Buf (Elt F) (gb.view.loc (tileT d i)))
    (k : Fin 8) (j j' m m' : ℕ) (hj : k.val = j) (hj' : k.val + 1 = j') (hm : 8 * k.val = m) (hm' : 8 * (k.val + 1) = m') :
    iprop(bigSep (pending j) (winRes (F := F) d i T gb qt ql ft fl offi hi g)
        ∗ Batch EC (tileT d i) (.dma sg) ι 4096 (slotD d i T gb qt ql ft fl hfl offi hi g) m 0)
      ⊢ iprop((bigSep (pending j') (winRes (F := F) d i T gb qt ql ft fl offi hi g)
          ∗ Batch EC (tileT d i) (.dma sg) ι 4096 (slotD d i T gb qt ql ft fl hfl offi hi g) m' 0
            -∗ wp frame (wpE defs 𝒱 (tileT d i) bd) Set.univ rest Q)
          -∗ wp frame (wpE defs 𝒱 (tileT d i) bd) Set.univ (gat T gb (lWin L offi hi) sg k rest) Q) := by
  subst hj hj' hm hm'
  rw [bigSep_pending_step (winRes (F := F) d i T gb qt ql ft fl offi hi g) k.val k.isLt]
  unfold gat
  iintro ⟨⟨Hw, Hp⟩, HB⟩ Hk
  ihave Hw := (Entails.of_eq (show winRes (F := F) d i T gb qt ql ft fl offi hi g ⟨k.val, k.isLt⟩ = _ from rfl)) $$ Hw
  unfold winRes
  icases Hw with ⟨HT, Hg, HL⟩
  iapply (wp_gatherBatch (c := tileT d i) EC 𝒱 bd (src := tWin T k) (dst := gWin gb k) (offs := lWin L offi hi)
    (hg := gathers_S2048x128_S8x128) (fs := ft) (fd := g) (fo := fl) (q := qt) (qo := pieceOf ql 8 (by decide) k)
    (D := slotD d i T gb qt ql ft fl hfl offi hi g) (hn := rfl) (n := 64) (j := 8 * k.val) (u := 0)
    (by decide) ι 4096 (credit_row gb k) (by have := k.isLt; show 8 * k.val + 8 ≤ 64; omega) (Nat.zero_le _) (fun _ => hfl _)
    (fun r => row_slotD (F := F) d i T gb qt ql ft fl hfl offi hi g k r _)) $$ [HT Hg HL HB]
  · isplitl [HT]; · iexact HT
    isplitl [Hg]; · iexact Hg
    isplitl [HL]; · iexact HL
    iexact HB
  iintro HB
  iapply Hk
  isplitl [Hp]; · iexact Hp
  iexact HB

variable (hT : T.IsWhole) (hxb : xb.IsWhole) (hgb : gb.IsWhole)

include hT hgb in
/-- The slot's shares and its second buffer are the windows' resources, and the list's other entries. -/
theorem winRes_all (offi : Fin 1 → Nat) (hi : ∀ a, offi a + S8.size a ≤ S512.size a) (g : Buf (Elt F) (gb.view.loc (tileT d i))) :
    iprop((T.view.loc (tileT d i) ↦[Finset.univ]{qt} ft) ∗ (gb.view.loc (tileT d i) ↦[Finset.univ]{fullShare} g)
        ∗ (L.view.loc (tileT d i) ↦[(lWin L offi hi).view.set]{ql} fl))
      ⊢ (bigSep Finset.univ (winRes (F := F) d i T gb qt ql ft fl offi hi g) : sProp 𝕄) := by
  have eT : (T.view.loc (tileT d i) ↦[Finset.univ]{qt} ft : sProp 𝕄)
      = bigSep Finset.univ fun k : Fin 8 => (T.view.loc (tileT d i) ↦[(tWin T k).view.set]{qt} ft) := by
    rw [← pointsTo_biUnion (ℓ := T.view.loc (tileT d i)) Finset.univ (fun k => (tWin T k).view.set)
      (fun k _ k' _ hk => win_disjoint T.view inbT k k' hk)]
    exact congrArg (fun S => (T.view.loc (tileT d i) ↦[S]{qt} ft : sProp 𝕄)) ((win_cover T.view inbT).trans hT.set_eq_univ).symm
  have eg : (gb.view.loc (tileT d i) ↦[Finset.univ]{fullShare} g : sProp 𝕄)
      = bigSep Finset.univ fun k : Fin 8 => (gb.view.loc (tileT d i) ↦[(gWin gb k).view.set]{fullShare} g) := by
    rw [← pointsTo_biUnion (ℓ := gb.view.loc (tileT d i)) Finset.univ (fun k => (gWin gb k).view.set)
      (fun k _ k' _ hk => win_disjoint gb.view inbG k k' hk)]
    exact congrArg (fun S => (gb.view.loc (tileT d i) ↦[S]{fullShare} g : sProp 𝕄)) ((win_cover gb.view inbG).trans hgb.set_eq_univ).symm
  rw [eT, eg, pointsTo_piecesOf (ℓ := L.view.loc (tileT d i)) (lWin L offi hi).view.set fl (o := 8) (by decide) ql]
  unfold winRes
  iintro ⟨HT, Hg, HL⟩
  ihave H := Transfers.bigSep_sep_in _ _ _ $$ [Hg HL]; · isplitl [Hg] <;> iassumption
  ihave H := Transfers.bigSep_sep_in _ _ _ $$ [HT H]; · isplitl [HT] <;> iassumption
  iexact H

include hT hgb in
/-- ISSUE A SLOT: from an idle slot to one with its transfers in flight. -/
theorem wp_issue (offx : Fin 2 → Nat) (hx : ∀ a, offx a + S8x2048.size a ≤ S16384x2048.size a)
    (offi : Fin 1 → Nat) (hi : ∀ a, offi a + S8.size a ≤ S512.size a) :
    (slotIdle d i X T L xb gb sx sg qx qt ql fx ft fl : sProp 𝕄)
      ⊢ iprop((slotFlight EC ι d i X T xb gb sx sg qx qt ql fx ft fl hfl offx hx offi hi
            -∗ wp frame (wpE defs 𝒱 (tileT d i) bd) Set.univ rest Q)
          -∗ wp frame (wpE defs 𝒱 (tileT d i) bd) Set.univ (issue X T L xb hxb gb sx sg offx hx offi hi rest) Q) := by
  unfold slotIdle slotReady slotShares issue
  iintro ⟨%vx, %vg, %f, %g, -, Hx, Hg, ⟨HX, HT, HL⟩, Hsx, Hsg⟩ Hk
  ihave HX := (pointsTo_split_subset (Finset.subset_univ (xWin X offx hx).view.set)).1 $$ HX
  icases HX with ⟨HXs, HXr⟩
  ihave HL := (pointsTo_split_subset (Finset.subset_univ (lWin L offi hi).view.set)).1 $$ HL
  icases HL with ⟨HLs, HLr⟩
  iapply (wp_dmaLocal (c := tileT d i) EC 𝒱 bd (src := xWin X offx hx) (dst := xb) (sm := .dma sx) (fs := fx) (fd := f) (q := qx)
    (Sd := Finset.univ) ι xb.view.dmaCredit rfl (View.dmaCredit_pos _ (by decide)) (Finset.subset_univ _)) $$ [HXs Hx Hsx]
  · isplitl [HXs]; · iexact HXs
    isplitl [Hx]; · iexact Hx
    iexact Hsx
  iintro HF
  imod (batch_alloc' EC (tileT d i) ι 4096 (slotD d i T gb qt ql ft fl hfl offi hi g)) $$ Hsg with HB
  ihave Hw := (winRes_all (F := F) d i T gb qt ql ft fl hT hgb offi hi g) $$ [HT Hg HLs]
  · isplitl [HT]; · iexact HT
    isplitl [Hg]; · iexact Hg
    iexact HLs
  ihave Hw := (Entails.of_eq (bigSep_pending_zero _)) $$ Hw
  iapply (wp_gat EC ι 𝒱 bd d i T gb sg qt ql ft fl hfl offi hi g 0 0 1 0 8 rfl rfl rfl rfl) $$ [Hw HB]
  · isplitl [Hw]; · iexact Hw
    iexact HB
  iintro H
  iapply (wp_gat EC ι 𝒱 bd d i T gb sg qt ql ft fl hfl offi hi g 1 1 2 8 16 rfl rfl rfl rfl) $$ H; iintro H
  iapply (wp_gat EC ι 𝒱 bd d i T gb sg qt ql ft fl hfl offi hi g 2 2 3 16 24 rfl rfl rfl rfl) $$ H; iintro H
  iapply (wp_gat EC ι 𝒱 bd d i T gb sg qt ql ft fl hfl offi hi g 3 3 4 24 32 rfl rfl rfl rfl) $$ H; iintro H
  iapply (wp_gat EC ι 𝒱 bd d i T gb sg qt ql ft fl hfl offi hi g 4 4 5 32 40 rfl rfl rfl rfl) $$ H; iintro H
  iapply (wp_gat EC ι 𝒱 bd d i T gb sg qt ql ft fl hfl offi hi g 5 5 6 40 48 rfl rfl rfl rfl) $$ H; iintro H
  iapply (wp_gat EC ι 𝒱 bd d i T gb sg qt ql ft fl hfl offi hi g 6 6 7 48 56 rfl rfl rfl rfl) $$ H; iintro H
  iapply (wp_gat EC ι 𝒱 bd d i T gb sg qt ql ft fl hfl offi hi g 7 7 8 56 64 rfl rfl rfl rfl) $$ H; iintro ⟨-, HB⟩
  iapply Hk
  unfold slotFlight
  iexists f, g
  isplitl [HF]; · iexact HF
  isplitl [HB]; · iexact HB
  isplitl [HXr]; · iexact HXr
  iexact HLr

/-- What the tile owes, having waited on whatever it has so far beside `W`. -/
def owesAny (O : CellTallies nD τ sig Ix) (W : Waits sig Ix) : sProp 𝕄 :=
  iprop(∃ W', ⌜∀ p ∈ W', p ∈ W ∨ p.2 = ι⌝ ∗ owes (tileT d i) O W')

variable {O : CellTallies nD τ sig Ix} {W : Waits sig Ix}

/-- Await one gather of a slot. -/
theorem wp_gwait (D : Fin 64 → sProp 𝕄) (k : Fin 8) (u u' : ℕ) (hu : u + 32768 = u') (hu' : u' ≤ 262144) :
    iprop(Batch EC (tileT d i) (.dma sg) ι 4096 D 64 u ∗ owesAny ι d i O W ∗ MayWaits (tileT d i) ι O)
      ⊢ iprop((Batch EC (tileT d i) (.dma sg) ι 4096 D 64 u' ∗ owesAny ι d i O W
            -∗ wp frame (wpE defs 𝒱 (tileT d i) bd) Set.univ rest Q)
          -∗ wp frame (wpE defs 𝒱 (tileT d i) bd) Set.univ (gwait T gb sg k rest) Q) := by
  unfold gwait owesAny
  iintro ⟨HB, ⟨%W', %hW', HO⟩, #Hmw⟩ Hk
  iapply (wp_waitBatchMulO (n := 64) (D := D) (N := 4096) (j := 64) (u := u) EC 𝒱 (tileT d i) bd ι 8 (credit_win gb k) (by omega)) $$ [HB HO]
  · isplitl [HB]; · iexact HB
    isplitl [HO]; · iexact HO
    iapply (MayWaits.elim (.dma sg)) $$ Hmw
  rw [show u + 8 * 4096 = u' by omega]
  iintro ⟨HB, HO⟩
  iapply Hk
  isplitl [HB]; · iexact HB
  iexists insert (SemLoc.dma sg, ι) W'
  isplitr
  · ipureintro
    intro p hp
    rcases Finset.mem_insert.mp hp with rfl | hp
    · exact .inr rfl
    · exact hW' p hp
  · iexact HO

/-- Window `k` of the gathered rows, landed. -/
def winLanded (offi : Fin 1 → Nat) (hi : ∀ a, offi a + S8.size a ≤ S512.size a) (g : Buf (Elt F) (gb.view.loc (tileT d i)))
    (k : Fin 8) : Buf (Elt F) (gb.view.loc (tileT d i)) :=
  (gWin gb k).view.write (Elt F) g (gatherPayload gathers_S2048x128_S8x128 ((tWin T k).view.read (Elt F) ft)
    (rows (si := S8) ((lWin L offi hi).view.read (Elt F) fl) rfl (fun _ => hfl _))) Finset.univ

/-- A buffer that agrees with the landed windows holds the gathered rows. -/
theorem read_landed (offi : Fin 1 → Nat) (hi : ∀ a, offi a + S8.size a ≤ S512.size a) (g g' : Buf (Elt F) (gb.view.loc (tileT d i)))
    (h : ∀ k ∈ (Finset.univ : Finset (Fin 8)), ∀ y ∈ (gWin gb k).view.set, g' y = winLanded (F := F) d i T gb ft fl hfl offi hi g k y) :
    gb.view.read (Elt F) g' = gRows (F := F) (T.view.read (Elt F) ft) (L.view.read (Elt F) fl) offi hi := by
  funext j
  have h0 : (j 0).val < 8 := (j 0).isLt
  have h1 : (j 1).val < 1024 := (j 1).isLt
  let k : Fin 8 := ⟨(j 1).val / 128, by omega⟩
  let x : S8x128.Idx := ix2 ⟨(j 0).val, h0⟩ ⟨(j 1).val % 128, Nat.mod_lt _ (by decide)⟩
  have hj : (Rect.unit (s := S8x1024) ![0, 128 * k.val] S8x128.size (inbG k)).emb x = j := by
    funext a
    apply Fin.ext
    match a with
    | ⟨0, _⟩ => show 0 + 1 * (j 0).val = (j 0).val; omega
    | ⟨1, _⟩ => show 128 * ((j 1).val / 128) + 1 * ((j 1).val % 128) = (j 1).val; omega
  rw [← hj, ← payload_eq T L ft fl offi hi hfl k x]
  have e : (gWin gb k).view.read (Elt F) g' x
      = (gWin gb k).view.read (Elt F) (winLanded (F := F) d i T gb ft fl hfl offi hi g k) x := by
    rw [View.read_apply, View.read_apply, h k (Finset.mem_univ _) _ ((gWin gb k).view.emb_mem_set x)]
  refine (show gb.view.read (Elt F) g' _ = (gWin gb k).view.read (Elt F) g' x from rfl).trans (e.trans ?_)
  unfold winLanded
  rw [View.read_write_univ]

include hT hgb in
/-- All rows of a slot landed: its second buffer holds the gathered rows, and its shares of the table and the list are
    whole again. -/
theorem slotD_all (offi : Fin 1 → Nat) (hi : ∀ a, offi a + S8.size a ≤ S512.size a) (g : Buf (Elt F) (gb.view.loc (tileT d i))) :
    (bigSep Finset.univ (slotD d i T gb qt ql ft fl hfl offi hi g) : sProp 𝕄)
      ⊢ iprop((∃ g' : Buf (Elt F) (gb.view.loc (tileT d i)),
            ⌜gb.view.read (Elt F) g' = gRows (F := F) (T.view.read (Elt F) ft) (L.view.read (Elt F) fl) offi hi⌝
            ∗ (gb.view.loc (tileT d i) ↦[Finset.univ]{fullShare} g'))
          ∗ (T.view.loc (tileT d i) ↦[Finset.univ]{qt} ft)
          ∗ (L.view.loc (tileT d i) ↦[(lWin L offi hi).view.set]{ql} fl)) := by
  have e : (bigSep Finset.univ (slotD d i T gb qt ql ft fl hfl offi hi g) : sProp 𝕄)
      = bigSep Finset.univ fun k : Fin 8 => bigSep Finset.univ fun r : Fin 8 => rowD d i T gb qt ql ft fl hfl offi hi g k r := by
    rw [bigSep_univ_equiv (finProdFinEquiv (m := 8) (n := 8)), bigSep_univ_prod]
    unfold slotD
    simp only [Equiv.symm_apply_apply]
  have eT : (T.view.loc (tileT d i) ↦[Finset.univ]{qt} ft : sProp 𝕄)
      = bigSep Finset.univ fun k : Fin 8 => (T.view.loc (tileT d i) ↦[(tWin T k).view.set]{qt} ft) := by
    rw [← pointsTo_biUnion (ℓ := T.view.loc (tileT d i)) Finset.univ (fun k => (tWin T k).view.set)
      (fun k _ k' _ hk => win_disjoint T.view inbT k k' hk)]
    exact congrArg (fun S => (T.view.loc (tileT d i) ↦[S]{qt} ft : sProp 𝕄)) ((win_cover T.view inbT).trans hT.set_eq_univ).symm
  rw [e, eT, pointsTo_piecesOf (ℓ := L.view.loc (tileT d i)) (lWin L offi hi).view.set fl (o := 8) (by decide) ql]
  have hm : (bigSep Finset.univ fun k : Fin 8 => bigSep Finset.univ fun r : Fin 8 => rowD d i T gb qt ql ft fl hfl offi hi g k r : sProp 𝕄)
      ⊢ bigSep Finset.univ fun k : Fin 8 =>
        iprop((gb.view.loc (tileT d i) ↦[(gWin gb k).view.set]{fullShare} winLanded (F := F) d i T gb ft fl hfl offi hi g k)
          ∗ (T.view.loc (tileT d i) ↦[(tWin T k).view.set]{qt} ft)
          ∗ (L.view.loc (tileT d i) ↦[(lWin L offi hi).view.set]{pieceOf ql 8 (by decide) k} fl)) :=
    bigSep_mono fun k _ => by
      have h := rowLanded_all (F := F) (Ix := Ix) (Name := Name) (U := U) (Lvl := Lvl) (tileT d i) (src := tWin T k) (dst := gWin gb k)
        (hg := gathers_S2048x128_S8x128) (offs := lWin L offi hi) (hn := rfl) (ho := by decide) (q := qt)
        (qo := pieceOf ql 8 (by decide) k) (fs := ft) (fd := g) (fo := fl)
        (r := rows (si := S8) ((lWin L offi hi).view.read (Elt F) fl) rfl (fun _ => hfl _))
      exact h
  iintro H
  ihave H := hm $$ H
  ihave H := Transfers.bigSep_sep_out _ _ _ $$ H
  icases H with ⟨Hg, H⟩
  ihave H := Transfers.bigSep_sep_out _ _ _ $$ H
  icases H with ⟨HT, HL⟩
  isplitl [Hg]
  · ihave Hg := (pointsTo_biUnion_join (ℓ := gb.view.loc (tileT d i)) Finset.univ (fun k : Fin 8 => (gWin gb k).view.set)
      (fun k => winLanded (F := F) d i T gb ft fl hfl offi hi g k) g
      (fun k _ k' _ hk => win_disjoint gb.view inbG k k' hk)) $$ Hg
    icases Hg with ⟨%g', %hg', Hg⟩
    iexists g'
    isplitr
    · ipureintro; exact read_landed (F := F) d i T gb ft fl hfl offi hi g g' hg'
    · ihave Hg := (Entails.of_eq (congrArg (fun S => (gb.view.loc (tileT d i) ↦[S]{fullShare} g' : sProp 𝕄))
        ((win_cover gb.view inbG).trans hgb.set_eq_univ))) $$ Hg
      iexact Hg
  isplitl [HT] <;> iassumption

include hT hxb hgb in
/-- AWAIT A SLOT: from transfers in flight to a slot whose buffers hold what they bring. -/
theorem wp_await (hxb' : xb.IsWhole) (offx : Fin 2 → Nat) (hx : ∀ a, offx a + S8x2048.size a ≤ S16384x2048.size a)
    (offi : Fin 1 → Nat) (hi : ∀ a, offi a + S8.size a ≤ S512.size a) :
    iprop(slotFlight EC ι d i X T xb gb sx sg qx qt ql fx ft fl hfl offx hx offi hi ∗ owesAny ι d i O W
        ∗ MayWaits (tileT d i) ι O)
      ⊢ iprop((slotReady d i X T L xb gb sx sg qx qt ql fx ft fl (xRows (F := F) (X.view.read (Elt F) fx) offx hx)
              (gRows (F := F) (T.view.read (Elt F) ft) (L.view.read (Elt F) fl) offi hi) ∗ owesAny ι d i O W
            -∗ wp frame (wpE defs 𝒱 (tileT d i) bd) Set.univ rest Q)
          -∗ wp frame (wpE defs 𝒱 (tileT d i) bd) Set.univ (await X T xb hxb' gb sx sg rest) Q) := by
  unfold slotFlight await
  iintro ⟨⟨%f, %g, HF, HB, HXr, HLr⟩, HO, #Hmw⟩ Hk
  ihave HO' := (Entails.of_eq (show owesAny ι d i O W = iprop(∃ W', ⌜∀ p ∈ W', p ∈ W ∨ p.2 = ι⌝ ∗ owes (tileT d i) O W') from rfl)) $$ HO
  icases HO' with ⟨%W', %hW', HO⟩
  iapply (wp_waitLocalO EC 𝒱 (tileT d i) bd (dstw := xb) ι rfl) $$ [HF HO]
  · isplitl [HF]; · iexact HF
    isplitl [HO]; · iexact HO
    iapply (MayWaits.elim (.dma sx)) $$ Hmw
  iintro ⟨⟨Hx, HXs⟩, Hsx, HO⟩
  ihave HO := (show (owes (tileT d i) O (insert (SemLoc.dma sx, ι) W') : sProp 𝕄) ⊢ owesAny ι d i O W from by
    unfold owesAny
    iintro HO
    iexists insert (SemLoc.dma sx, ι) W'
    isplitr
    · ipureintro
      intro p hp
      rcases Finset.mem_insert.mp hp with rfl | hp
      · exact .inr rfl
      · exact hW' p hp
    · iexact HO) $$ HO
  iapply (wp_gwait EC ι 𝒱 bd d i T gb sg _ 0 0 32768 (by decide) (by decide)) $$ [HB HO]
  · isplitl [HB]; · iexact HB
    isplitl [HO]; · iexact HO
    iexact Hmw
  iintro ⟨HB, HO⟩
  iapply (wp_gwait EC ι 𝒱 bd d i T gb sg _ 1 32768 65536 (by decide) (by decide)) $$ [HB HO]
  · isplitl [HB]; · iexact HB
    isplitl [HO]; · iexact HO
    iexact Hmw
  iintro ⟨HB, HO⟩
  iapply (wp_gwait EC ι 𝒱 bd d i T gb sg _ 2 65536 98304 (by decide) (by decide)) $$ [HB HO]
  · isplitl [HB]; · iexact HB
    isplitl [HO]; · iexact HO
    iexact Hmw
  iintro ⟨HB, HO⟩
  iapply (wp_gwait EC ι 𝒱 bd d i T gb sg _ 3 98304 131072 (by decide) (by decide)) $$ [HB HO]
  · isplitl [HB]; · iexact HB
    isplitl [HO]; · iexact HO
    iexact Hmw
  iintro ⟨HB, HO⟩
  iapply (wp_gwait EC ι 𝒱 bd d i T gb sg _ 4 131072 163840 (by decide) (by decide)) $$ [HB HO]
  · isplitl [HB]; · iexact HB
    isplitl [HO]; · iexact HO
    iexact Hmw
  iintro ⟨HB, HO⟩
  iapply (wp_gwait EC ι 𝒱 bd d i T gb sg _ 5 163840 196608 (by decide) (by decide)) $$ [HB HO]
  · isplitl [HB]; · iexact HB
    isplitl [HO]; · iexact HO
    iexact Hmw
  iintro ⟨HB, HO⟩
  iapply (wp_gwait EC ι 𝒱 bd d i T gb sg _ 6 196608 229376 (by decide) (by decide)) $$ [HB HO]
  · isplitl [HB]; · iexact HB
    isplitl [HO]; · iexact HO
    iexact Hmw
  iintro ⟨HB, HO⟩
  iapply (wp_gwait EC ι 𝒱 bd d i T gb sg _ 7 229376 262144 (by decide) (by decide)) $$ [HB HO]
  · isplitl [HB]; · iexact HB
    isplitl [HO]; · iexact HO
    iexact Hmw
  iintro ⟨HB, HO⟩
  imod (batch_collect' (n := 64) EC (tileT d i) (by decide : 0 < 4096)) $$ HB with ⟨HD, Hsg⟩
  ihave HD := (slotD_all (F := F) d i T gb qt ql ft fl hfl hT hgb offi hi g) $$ HD
  icases HD with ⟨⟨%g', %hg', Hg⟩, HT, HLs⟩
  iapply Hk
  isplitr [HO]
  · unfold slotReady slotShares
    iexists (xb.view.write (Elt F) f ((xWin X offx hx).view.read (Elt F) fx) Finset.univ), g'
    isplitr
    · ipureintro
      exact ⟨(View.read_write_univ _ _).trans rfl, hg'⟩
    isplitl [Hx]; · iexact Hx
    isplitl [Hg]; · iexact Hg
    isplitr [Hsx Hsg]
    · isplitl [HXs HXr]
      · iapply (pointsTo_split_subset (Finset.subset_univ (xWin X offx hx).view.set)).2
        isplitl [HXs] <;> iassumption
      isplitl [HT]; · iexact HT
      iapply (pointsTo_split_subset (Finset.subset_univ (lWin L offi hi).view.set)).2
      isplitl [HLs] <;> iassumption
    isplitl [Hsx] <;> iassumption
  · iexact HO

end Slot

end Cert.Proof

end
-- ==== Proof.Chunk.lean ====
/-
  Adding a slot to the accumulators: the value of the eight accumulators after a slot's eight rows, as a function of what
  the slot's buffers hold, and the rule of the block that computes it.
-/
module

public import proofs.«01_k».proof.Proof.Slot

@[expose] public section

set_option maxRecDepth 16384

noncomputable section

namespace Cert.Proof

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The values -/

/-- The first `k` of `n` steps `f`, in order, from `a`. -/
def upTo {α : Type} {n : ℕ} (f : Fin n → α → α) (a : α) : ℕ → α
  | 0 => a
  | k + 1 => if h : k < n then f ⟨k, h⟩ (upTo f a k) else upTo f a k

theorem upTo_succ {α : Type} {n : ℕ} (f : Fin n → α → α) (a : α) (k : Fin n) : upTo f a (k.val + 1) = f k (upTo f a k.val) := by
  rw [upTo, dif_pos k.isLt]

/-- Sixteen columns of the features' left half: row `r`, the `u`-th sixteen of group `g`. -/
def xl (vx : S8x2048.Idx → Elt F .f32) (r : Fin k0_t2_loop.trips) (g : Fin k0_t3_loop.trips) (u : Fin 8) : Vec F S1x16 .f32 :=
  fun j => vx ((Rect.unit (s := S8x2048) (k0_off3 r g (BitVec.ofNat 32 u.val)) S1x16.size (k0_off3_inb r g u)).emb j)

/-- The same columns of the features' right half. -/
def xr (vx : S8x2048.Idx → Elt F .f32) (r : Fin k0_t2_loop.trips) (g : Fin k0_t3_loop.trips) (u : Fin 8) : Vec F S1x16 .f32 :=
  fun j => vx ((Rect.unit (s := S8x2048) (k0_off4 r g (BitVec.ofNat 32 u.val)) S1x16.size (k0_off4_inb r g u)).emb j)

/-- The same columns of the gathered words. -/
def xw (vg : S8x1024.Idx → Elt F .i32) (r : Fin k0_t2_loop.trips) (g : Fin k0_t3_loop.trips) (u : Fin 8) : Vec F S1x16 .i32 :=
  fun j => vg ((Rect.unit (s := S8x1024) (k0_off5 r g (BitVec.ofNat 32 u.val)) S1x16.size (k0_off5_inb r g u)).emb j)

variable (vx : S8x2048.Idx → Elt F .f32) (vg : S8x1024.Idx → Elt F .i32)

/-- The accumulators after group `g` of row `r`. -/
def groupVal (r : Fin k0_t2_loop.trips) (g : Fin k0_t3_loop.trips) (a : Acc F) : Acc F :=
  (k0_pay1 a.1 (xl vx r g 0) (xr vx r g 0) (xw (F := F) vg r g 0), k0_pay1 a.2.1 (xl vx r g 1) (xr vx r g 1) (xw (F := F) vg r g 1),
    k0_pay1 a.2.2.1 (xl vx r g 2) (xr vx r g 2) (xw (F := F) vg r g 2), k0_pay1 a.2.2.2.1 (xl vx r g 3) (xr vx r g 3) (xw (F := F) vg r g 3),
    k0_pay1 a.2.2.2.2.1 (xl vx r g 4) (xr vx r g 4) (xw (F := F) vg r g 4), k0_pay1 a.2.2.2.2.2.1 (xl vx r g 5) (xr vx r g 5) (xw (F := F) vg r g 5),
    k0_pay1 a.2.2.2.2.2.2.1 (xl vx r g 6) (xr vx r g 6) (xw (F := F) vg r g 6),
    k0_pay1 a.2.2.2.2.2.2.2 (xl vx r g 7) (xr vx r g 7) (xw (F := F) vg r g 7))

/-- The accumulators after row `r`. -/
def rowVal (r : Fin k0_t2_loop.trips) (a : Acc F) : Acc F := upTo (groupVal vx vg r) a k0_t3_loop.trips

/-- The accumulators after the slot's eight rows. -/
def chunkVal (a : Acc F) : Acc F := upTo (rowVal vx vg) a k0_t2_loop.trips

/-! ## The rules -/

section Rules

variable {Ix : Type} [DecidableEq Ix] {Name : Type} [DecidableEq Name] [Infinite Name]
variable {U : Type} [URA U] {Lvl : Type} [Preorder Lvl]

local notation "𝕄" => MT nD τ sig Ix (Elt F) Name U Lvl

variable {defs : Defs nD τ sig (Elt F) Λ₀} (𝒱 : Variants) (bd : Option 𝒱.V)
variable (d : Dev nD) (i : grid0.Coords)
  (X : Memref sig .scVector .hbm S16384x2048 .f32) (T : Memref sig .scVector .hbm S2048x1024 .i32)
  (L : Memref sig .scVector .vmem S512 .i32)
  (xb : Memref sig .scVector .vmem S8x2048 .f32) (gb : Memref sig .scVector .vmem S8x1024 .i32) (sx sg : DmaSem sig)
  (qx qt ql : PosShare TreeShare)
  (fx : Buf (Elt F) (X.view.loc (tileT d i))) (ft : Buf (Elt F) (T.view.loc (tileT d i))) (fl : Buf (Elt F) (L.view.loc (tileT d i)))
variable {α : Type} {Q : α → sProp (MT nD τ sig Ix (Elt F) Name U Lvl)}

/-- Three loads out of a slot. -/
theorem wp_load3 (r : Fin k0_t2_loop.trips) (g : Fin k0_t3_loop.trips) (u : Fin 8)
    (k : Vec F S1x16 .f32 → Vec F S1x16 .f32 → Vec F S1x16 .i32 → TileProg F i α) :
    (slotReady d i X T L xb gb sx sg qx qt ql fx ft fl vx vg : sProp 𝕄)
      ⊢ iprop((slotReady d i X T L xb gb sx sg qx qt ql fx ft fl vx vg
            -∗ wp frame (wpE defs 𝒱 (tileT d i) bd) Set.univ (k (xl vx r g u) (xr vx r g u) (xw (F := F) vg r g u)) Q)
          -∗ wp frame (wpE defs 𝒱 (tileT d i) bd) Set.univ (load3 xb gb r g u k) Q) := by
  unfold slotReady load3
  iintro ⟨%f, %g', %h, Hx, Hg, Hrest⟩ Hk
  obtain ⟨rfl, rfl⟩ := h
  iapply (wp_load_rect (c := tileT d i) 𝒱 bd Set.univ (m := xb)
    (r := Rect.unit (s := S8x2048) (k0_off3 r g (BitVec.ofNat 32 u.val)) S1x16.size (k0_off3_inb r g u)) (S := Finset.univ) (Finset.subset_univ _)) $$ Hx
  iintro Hx
  iapply (wp_load_rect (c := tileT d i) 𝒱 bd Set.univ (m := xb)
    (r := Rect.unit (s := S8x2048) (k0_off4 r g (BitVec.ofNat 32 u.val)) S1x16.size (k0_off4_inb r g u)) (S := Finset.univ) (Finset.subset_univ _)) $$ Hx
  iintro Hx
  iapply (wp_load_rect (c := tileT d i) 𝒱 bd Set.univ (m := gb)
    (r := Rect.unit (s := S8x1024) (k0_off5 r g (BitVec.ofNat 32 u.val)) S1x16.size (k0_off5_inb r g u)) (S := Finset.univ) (Finset.subset_univ _)) $$ Hg
  iintro Hg
  iapply Hk
  iexists f, g'
  isplitr
  · ipureintro; exact ⟨rfl, rfl⟩
  isplitl [Hx]; · iexact Hx
  isplitl [Hg]; · iexact Hg
  iexact Hrest

/-- A group's run. -/
theorem wp_group (r : Fin k0_t2_loop.trips) (g : Fin k0_t3_loop.trips) (a : Acc F) {Q : Acc F → sProp 𝕄} :
    (slotReady d i X T L xb gb sx sg qx qt ql fx ft fl vx vg : sProp 𝕄)
      ⊢ iprop((slotReady d i X T L xb gb sx sg qx qt ql fx ft fl vx vg -∗ Q (groupVal vx vg r g a))
          -∗ wp frame (wpE defs 𝒱 (tileT d i) bd) Set.univ (groupBody i xb gb r g a) Q) := by
  unfold groupBody groupVal
  iintro H Hk
  iapply (wp_load3 vx vg 𝒱 bd d i X T L xb gb sx sg qx qt ql fx ft fl r g 0) $$ H; iintro H
  iapply (wp_load3 vx vg 𝒱 bd d i X T L xb gb sx sg qx qt ql fx ft fl r g 1) $$ H; iintro H
  iapply (wp_load3 vx vg 𝒱 bd d i X T L xb gb sx sg qx qt ql fx ft fl r g 2) $$ H; iintro H
  iapply (wp_load3 vx vg 𝒱 bd d i X T L xb gb sx sg qx qt ql fx ft fl r g 3) $$ H; iintro H
  iapply (wp_load3 vx vg 𝒱 bd d i X T L xb gb sx sg qx qt ql fx ft fl r g 4) $$ H; iintro H
  iapply (wp_load3 vx vg 𝒱 bd d i X T L xb gb sx sg qx qt ql fx ft fl r g 5) $$ H; iintro H
  iapply (wp_load3 vx vg 𝒱 bd d i X T L xb gb sx sg qx qt ql fx ft fl r g 6) $$ H; iintro H
  iapply (wp_load3 vx vg 𝒱 bd d i X T L xb gb sx sg qx qt ql fx ft fl r g 7) $$ H; iintro H
  rw [wp_pure]
  imodintro
  iapply Hk
  iexact H

/-- A row's run. -/
theorem wp_row (r : Fin k0_t2_loop.trips) (a : Acc F) {Q : Acc F → sProp 𝕄} :
    (slotReady d i X T L xb gb sx sg qx qt ql fx ft fl vx vg : sProp 𝕄)
      ⊢ iprop((slotReady d i X T L xb gb sx sg qx qt ql fx ft fl vx vg -∗ Q (rowVal vx vg r a))
          -∗ wp frame (wpE defs 𝒱 (tileT d i) bd) Set.univ (rowBody i xb gb r a) Q) := by
  unfold rowBody rowVal
  iintro H Hk
  iapply (Scf.wp_for_bind frame (wpE defs 𝒱 (tileT d i) bd) Set.univ k0_t3_loop.lb k0_t3_loop.ub k0_t3_loop.st k0_t3_ok a (groupBody i xb gb r)
    (fun k acc => iprop(⌜acc = upTo (groupVal vx vg r) a k⌝ ∗ slotReady d i X T L xb gb sx sg qx qt ql fx ft fl vx vg))
    (by
      intro k acc
      iintro ⟨%e, H⟩
      iapply (wp_group vx vg 𝒱 bd d i X T L xb gb sx sg qx qt ql fx ft fl r k acc) $$ H
      iintro H
      isplitr
      · ipureintro; rw [e]; exact (upTo_succ (groupVal vx vg r) a k).symm
      · iexact H)) $$ [H]
  · isplitr
    · ipureintro; rfl
    · iexact H
  iintro %acc ⟨%e, H⟩
  subst e
  rw [wp_pure]
  imodintro
  iapply Hk
  iexact H

/-- ADD A SLOT: the accumulators go on with the slot added. -/
theorem wp_chunk (a : Acc F) (k : Acc F → TileProg F i α) :
    (slotReady d i X T L xb gb sx sg qx qt ql fx ft fl vx vg : sProp 𝕄)
      ⊢ iprop((slotReady d i X T L xb gb sx sg qx qt ql fx ft fl vx vg
            -∗ wp frame (wpE defs 𝒱 (tileT d i) bd) Set.univ (k (chunkVal vx vg a)) Q)
          -∗ wp frame (wpE defs 𝒱 (tileT d i) bd) Set.univ (chunk xb gb a k) Q) := by
  unfold chunk chunkVal
  iintro H Hk
  iapply (Scf.wp_for_bind frame (wpE defs 𝒱 (tileT d i) bd) Set.univ k0_t2_loop.lb k0_t2_loop.ub k0_t2_loop.st k0_t2_ok a (rowBody i xb gb)
    (fun k acc => iprop(⌜acc = upTo (rowVal vx vg) a k⌝ ∗ slotReady d i X T L xb gb sx sg qx qt ql fx ft fl vx vg))
    (by
      intro k acc
      iintro ⟨%e, H⟩
      iapply (wp_row vx vg 𝒱 bd d i X T L xb gb sx sg qx qt ql fx ft fl k acc) $$ H
      iintro H
      isplitr
      · ipureintro; rw [e]; exact (upTo_succ (rowVal vx vg) a k).symm
      · iexact H)) $$ [H]
  · isplitr
    · ipureintro; rfl
    · iexact H
  iintro %acc ⟨%e, H⟩
  subst e
  iapply Hk
  iexact H

end Rules

end Cert.Proof

end
-- ==== Proof.Tile.lean ====
/-
  One tile's run: the list's 512 entries fetched, 64 chunks of eight rows added up through the ring of five slots, the
  sixteen lanes copied to the tile's row of the result. The value is carried from the start: the accumulators before
  chunk `n` are `tileAcc … n`, a function of the features, the table and the list.
-/
module

public import proofs.«01_k».proof.Proof.Chunk

@[expose] public section

set_option maxRecDepth 16384

noncomputable section

namespace Cert.Proof

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The offsets -/

/-- Where chunk `n` of tile `i` starts in the features. -/
def xOff (i : grid0.Coords) (n : Fin 64) : Fin 2 → Nat := ![1024 * (i 1).val + 512 * (i 0).val + 8 * n.val, 0]

theorem xOff_inb (i : grid0.Coords) (n : Fin 64) : ∀ a, xOff i n a + S8x2048.size a ≤ S16384x2048.size a := by
  have h0 : (i 0).val < 2 := (i 0).isLt
  have h1 : (i 1).val < 16 := (i 1).isLt
  have hn := n.isLt
  intro a
  match a with
  | ⟨0, _⟩ => show 1024 * (i 1).val + 512 * (i 0).val + 8 * n.val + 8 ≤ 16384; omega
  | ⟨1, _⟩ => show 0 + 2048 ≤ 2048; omega

/-- Where it starts in the tile's entries of the list. -/
def lOff (n : Fin 64) : Fin 1 → Nat := ![8 * n.val]

theorem lOff_inb (n : Fin 64) : ∀ a, lOff n a + S8.size a ≤ S512.size a := by
  have hn := n.isLt
  intro a
  match a with
  | ⟨0, _⟩ => show 8 * n.val + 8 ≤ 512; omega

theorem k0_off2_closed : ∀ (i : grid0.Coords) (r : Fin 9),
    k0_off2 i (k0_off2_at r) = ![1024 * (i 1).val + 512 * (i 0).val + (k0_off2_at r).toNat, 0] := by decide +kernel

/-! ## The value -/

/-- The tile's 512 entries of the list. -/
def tileList (vI : S16384.Idx → Elt F .i32) (i : grid0.Coords) : S512.Idx → Elt F .i32 :=
  fun y => vI ((Rect.unit (s := S16384) (k0_off1 i) S512.size (k0_off1_inb i)).emb y)

/-- Chunk `n` added to the accumulators. -/
def chunkStep (vX : S16384x2048.Idx → Elt F .f32) (vT : S2048x1024.Idx → Elt F .i32) (vL : S512.Idx → Elt F .i32)
    (i : grid0.Coords) (n : Fin 64) (a : Acc F) : Acc F :=
  chunkVal (xRows vX (xOff i n) (xOff_inb i n)) (gRows (F := F) vT vL (lOff n) (lOff_inb n)) a

/-- The accumulators before chunk `n`. -/
def tileAcc (vX : S16384x2048.Idx → Elt F .f32) (vT : S2048x1024.Idx → Elt F .i32) (vL : S512.Idx → Elt F .i32)
    (i : grid0.Coords) (n : ℕ) : Acc F := upTo (chunkStep vX vT vL i) zeroAcc n

/-- The eight accumulators added up in a tree. -/
def total (a : Acc F) : FVec F S16 .f32 :=
  k0_pay275 a.1 a.2.1 a.2.2.1 a.2.2.2.1 a.2.2.2.2.1 a.2.2.2.2.2.1 a.2.2.2.2.2.2.1 a.2.2.2.2.2.2.2

/-- The tile's sixteen lanes. -/
def tileOut (vX : S16384x2048.Idx → Elt F .f32) (vI : S16384.Idx → Elt F .i32) (vT : S2048x1024.Idx → Elt F .i32)
    (i : grid0.Coords) : FVec F S16 .f32 := total (tileAcc vX vT (tileList (F := F) vI i) i 64)

section Tile

variable {Ix : Type} [DecidableEq Ix] {Name : Type} [DecidableEq Name] [Infinite Name]
variable {U : Type} [URA U] {Lvl : Type} [Preorder Lvl]

local notation "𝕄" => MT nD τ sig Ix (Elt F) Name U Lvl

/-- Five pieces, one by one. -/
theorem bigSep_five (Φ : Fin 5 → sProp (MT nD τ sig Ix (Elt F) Name U Lvl)) :
    bigSep Finset.univ Φ = iprop(Φ 0 ∗ Φ 1 ∗ Φ 2 ∗ Φ 3 ∗ Φ 4) := by
  rw [show (Finset.univ : Finset (Fin 5)) = {0, 1, 2, 3, 4} from by decide,
    bigSep_insert (by decide), bigSep_insert (by decide), bigSep_insert (by decide), bigSep_insert (by decide), bigSep_singleton]
  rfl

variable (EC : UEmb Counters (MT nD τ sig Ix (Elt F) Name U Lvl))
  [EC.LandsIn (upEmb : UEmb _ (MT nD τ sig Ix (Elt F) Name U Lvl))] (ι : Ix)
variable {defs : Defs nD τ sig (Elt F) Λ₀} (𝒱 : Variants) (bd : Option 𝒱.V)
variable (d : Dev nD) (i : grid0.Coords)
  (X : Memref sig .scVector .hbm S16384x2048 .f32) (T : Memref sig .scVector .hbm S2048x1024 .i32)
  (L : Memref sig .scVector .vmem S512 .i32)
  (qx qt ql : PosShare TreeShare)
  (fx : Buf (Elt F) (X.view.loc (tileT d i))) (ft : Buf (Elt F) (T.view.loc (tileT d i))) (fl : Buf (Elt F) (L.view.loc (tileT d i)))
  (xb : Memref sig .scVector .vmem S8x2048 .f32) (gb : Memref sig .scVector .vmem S8x1024 .i32) (sx sg : DmaSem sig)
variable {O : CellTallies nD τ sig Ix} {W : Waits sig Ix} {α : Type}

/-- Slot `b`, idle, with its fifth of the shares. -/
def slotI (b : Fin 5) : sProp 𝕄 :=
  slotIdle d i X T L xb gb sx sg (pieceOf qx 5 (by decide) b) (pieceOf qt 5 (by decide) b) (pieceOf ql 5 (by decide) b) fx ft fl

/-- An idle slot out of its buffers, shares and semaphores. -/
theorem slotI_intro (b : Fin 5) (f : Buf (Elt F) (xb.view.loc (tileT d i))) (g : Buf (Elt F) (gb.view.loc (tileT d i))) :
    iprop((xb.view.loc (tileT d i) ↦[Finset.univ]{fullShare} f) ∗ (gb.view.loc (tileT d i) ↦[Finset.univ]{fullShare} g)
        ∗ ((X.view.loc (tileT d i) ↦[Finset.univ]{pieceOf qx 5 (by decide) b} fx)
          ∗ (T.view.loc (tileT d i) ↦[Finset.univ]{pieceOf qt 5 (by decide) b} ft)
          ∗ (L.view.loc (tileT d i) ↦[Finset.univ]{pieceOf ql 5 (by decide) b} fl))
        ∗ semVal (tileT d i, .dma sx) 0 ∗ semVal (tileT d i, .dma sg) 0)
      ⊢ (slotI d i X T L qx qt ql fx ft fl xb gb sx sg b : sProp 𝕄) := by
  unfold slotI slotIdle slotReady slotShares
  iintro H
  iexists _, _, f, g
  isplitr
  · ipureintro; exact ⟨rfl, rfl⟩
  · iexact H

/-- And back. -/
theorem slotI_elim (b : Fin 5) :
    (slotI d i X T L qx qt ql fx ft fl xb gb sx sg b : sProp 𝕄)
      ⊢ iprop((∃ f : Buf (Elt F) (xb.view.loc (tileT d i)), (xb.view.loc (tileT d i) ↦[Finset.univ]{fullShare} f))
        ∗ (∃ g : Buf (Elt F) (gb.view.loc (tileT d i)), (gb.view.loc (tileT d i) ↦[Finset.univ]{fullShare} g))
        ∗ ((X.view.loc (tileT d i) ↦[Finset.univ]{pieceOf qx 5 (by decide) b} fx)
          ∗ (T.view.loc (tileT d i) ↦[Finset.univ]{pieceOf qt 5 (by decide) b} ft)
          ∗ (L.view.loc (tileT d i) ↦[Finset.univ]{pieceOf ql 5 (by decide) b} fl))
        ∗ semVal (tileT d i, .dma sx) 0 ∗ semVal (tileT d i, .dma sg) 0) := by
  unfold slotI slotIdle slotReady slotShares
  iintro ⟨%vx, %vg, %f, %g, -, Hx, Hg, H⟩
  isplitl [Hx]; · iexists f; iexact Hx
  isplitl [Hg]; · iexists g; iexact Hg
  iexact H

variable {L} (hfl : ∀ y, (L.view.read (Elt F) fl y : BitVec 32).toNat < 2048)

/-- Slot `b` with chunk `n` in flight. -/
def slotF (b : Fin 5) (n : Fin 64) : sProp 𝕄 :=
  slotFlight EC ι d i X T xb gb sx sg (pieceOf qx 5 (by decide) b) (pieceOf qt 5 (by decide) b) (pieceOf ql 5 (by decide) b)
    fx ft fl hfl (xOff i n) (xOff_inb i n) (lOff n) (lOff_inb n)

variable (hT : T.IsWhole) (hxb : xb.IsWhole) (hgb : gb.IsWhole)

include hT hxb hgb in
/-- Issue chunk `n` into an idle slot. -/
theorem wp_issueF (b : Fin 5) (n : Fin 64) (offx : Fin 2 → Nat) (hx : ∀ a, offx a + S8x2048.size a ≤ S16384x2048.size a)
    (offi : Fin 1 → Nat) (hi : ∀ a, offi a + S8.size a ≤ S512.size a) (ex : offx = xOff i n) (ei : offi = lOff n)
    (hxb' : xb.IsWhole) {rest : TileProg F i α} {Q : α → sProp 𝕄} :
    (slotI d i X T L qx qt ql fx ft fl xb gb sx sg b : sProp 𝕄)
      ⊢ iprop((slotF EC ι d i X T qx qt ql fx ft fl xb gb sx sg hfl b n
            -∗ wp frame (wpE defs 𝒱 (tileT d i) bd) Set.univ rest Q)
          -∗ wp frame (wpE defs 𝒱 (tileT d i) bd) Set.univ (issue X T L xb hxb' gb sx sg offx hx offi hi rest) Q) := by
  subst ex ei
  unfold slotI slotF
  exact wp_issue EC ι 𝒱 bd d i X T xb gb sx sg _ _ _ fx ft fl hfl hT hxb hgb (xOff i n) hx (lOff n) hi

include hT hgb in
/-- Await chunk `n` and add it up. -/
theorem wp_awaitChunk (b : Fin 5) (n : Fin 64) (hxb' : xb.IsWhole) (a : Acc F)
    (ha : a = tileAcc (X.view.read (Elt F) fx) (T.view.read (Elt F) ft) (L.view.read (Elt F) fl) i n.val)
    {k : Acc F → TileProg F i α} {Q : α → sProp 𝕄} :
    iprop(slotF EC ι d i X T qx qt ql fx ft fl xb gb sx sg hfl b n ∗ owesAny ι d i O W ∗ MayWaits (tileT d i) ι O)
      ⊢ iprop((slotI d i X T L qx qt ql fx ft fl xb gb sx sg b ∗ owesAny ι d i O W
            -∗ wp frame (wpE defs 𝒱 (tileT d i) bd) Set.univ
              (k (tileAcc (X.view.read (Elt F) fx) (T.view.read (Elt F) ft) (L.view.read (Elt F) fl) i (n.val + 1))) Q)
          -∗ wp frame (wpE defs 𝒱 (tileT d i) bd) Set.univ (await X T xb hxb' gb sx sg (chunk xb gb a k)) Q) := by
  subst ha
  unfold slotI slotF slotIdle
  iintro H Hk
  iapply (wp_await EC ι 𝒱 bd d i X T xb gb sx sg _ _ _ fx ft fl hfl hT hxb' hgb hxb' (xOff i n) _ (lOff n) _) $$ H
  iintro ⟨H, HO⟩
  iapply (wp_chunk _ _ 𝒱 bd d i X T L xb gb sx sg _ _ _ fx ft fl) $$ H
  iintro H
  have e : chunkVal (xRows (F := F) (X.view.read (Elt F) fx) (xOff i n) (xOff_inb i n))
      (gRows (F := F) (T.view.read (Elt F) ft) (L.view.read (Elt F) fl) (lOff n) (lOff_inb n))
      (tileAcc (X.view.read (Elt F) fx) (T.view.read (Elt F) ft) (L.view.read (Elt F) fl) i n.val)
      = tileAcc (X.view.read (Elt F) fx) (T.view.read (Elt F) ft) (L.view.read (Elt F) fl) i (n.val + 1) :=
    (upTo_succ (chunkStep _ _ _ i) zeroAcc n).symm
  rw [e]
  iapply Hk
  isplitl [H]
  · iexists _, _; iexact H
  · iexact HO

/-- One more wait recorded. -/
theorem owesAny_insert {W' : Waits sig Ix} (hW' : ∀ p ∈ W', p ∈ W ∨ p.2 = ι) (s : DmaSem sig) :
    (owes (tileT d i) O (insert (SemLoc.dma s, ι) W') : sProp 𝕄) ⊢ owesAny ι d i O W := by
  unfold owesAny
  iintro HO
  iexists insert (SemLoc.dma s, ι) W'
  isplitr
  · ipureintro
    intro p hp
    rcases Finset.mem_insert.mp hp with rfl | hp
    · exact .inr rfl
    · exact hW' p hp
  · iexact HO

include EC in
/-- Fetch the tile's entries of the list. -/
theorem wp_fetch (I : Memref sig .scVector .hbm S16384 .i32) (L : Memref sig .scVector .vmem S512 .i32) (hL : L.IsWhole) (s : DmaSem sig)
    (qi : PosShare TreeShare) (fi : Buf (Elt F) (I.view.loc (tileT d i))) (f : Buf (Elt F) (L.view.loc (tileT d i)))
    {rest : TileProg F i α} {Q : α → sProp 𝕄} :
    iprop((I.view.loc (tileT d i) ↦[Finset.univ]{qi} fi) ∗ (L.view.loc (tileT d i) ↦[Finset.univ]{fullShare} f)
        ∗ semVal (tileT d i, .dma s) 0 ∗ owesAny ι d i O W ∗ MayWaits (tileT d i) ι O)
      ⊢ iprop((iprop((I.view.loc (tileT d i) ↦[Finset.univ]{qi} fi)
              ∗ (∃ fl : Buf (Elt F) (L.view.loc (tileT d i)), ⌜L.view.read (Elt F) fl = tileList (F := F) (I.view.read (Elt F) fi) i⌝
                ∗ (L.view.loc (tileT d i) ↦[Finset.univ]{fullShare} fl))
              ∗ semVal (tileT d i, .dma s) 0 ∗ owesAny ι d i O W)
            -∗ wp frame (wpE defs 𝒱 (tileT d i) bd) Set.univ rest Q)
          -∗ wp frame (wpE defs 𝒱 (tileT d i) bd) Set.univ (fetch I L hL s (k0_off1 i) (k0_off1_inb i) rest) Q) := by
  unfold fetch
  iintro ⟨HI, HL, Hs, HO, #Hmw⟩ Hk
  ihave HI := (pointsTo_split_subset (Finset.subset_univ
    (I.slice (Rect.unit (s := S16384) (k0_off1 i) S512.size (k0_off1_inb i)) (fun _ => rfl)).view.set)).1 $$ HI
  icases HI with ⟨HIs, HIr⟩
  iapply (wp_dmaLocal (c := tileT d i) EC 𝒱 bd (src := I.slice (Rect.unit (s := S16384) (k0_off1 i) S512.size (k0_off1_inb i)) (fun _ => rfl))
    (dst := L) (sm := .dma s) (fs := fi) (fd := f) (q := qi)
    (Sd := Finset.univ) ι L.view.dmaCredit rfl (View.dmaCredit_pos _ (by decide)) (Finset.subset_univ _)) $$ [HIs HL Hs]
  · isplitl [HIs]; · iexact HIs
    isplitl [HL]; · iexact HL
    iexact Hs
  iintro HF
  ihave HO := (Entails.of_eq (show owesAny ι d i O W = iprop(∃ W', ⌜∀ p ∈ W', p ∈ W ∨ p.2 = ι⌝ ∗ owes (tileT d i) O W') from rfl)) $$ HO
  icases HO with ⟨%W', %hW', HO⟩
  iapply (wp_waitLocalO EC 𝒱 (tileT d i) bd (dstw := L) ι rfl) $$ [HF HO]
  · isplitl [HF]; · iexact HF
    isplitl [HO]; · iexact HO
    iapply (MayWaits.elim (.dma s)) $$ Hmw
  iintro ⟨⟨HL, HIs⟩, Hs, HO⟩
  ihave HO := (owesAny_insert (F := F) ι d i hW' s) $$ HO
  iapply Hk
  isplitl [HIs HIr]
  · iapply (pointsTo_split_subset (Finset.subset_univ
      (I.slice (Rect.unit (s := S16384) (k0_off1 i) S512.size (k0_off1_inb i)) (fun _ => rfl)).view.set)).2
    isplitl [HIs] <;> iassumption
  isplitl [HL]
  · iexists (L.view.write (Elt F) f ((I.slice (Rect.unit (s := S16384) (k0_off1 i) S512.size (k0_off1_inb i)) (fun _ => rfl)).view.read (Elt F) fi) Finset.univ)
    isplitr
    · ipureintro; exact (View.read_write_univ _ _).trans rfl
    · iexact HL
  isplitl [Hs]; · iexact Hs
  iexact HO

include EC in
/-- Add the accumulators up, store the lanes, copy them out. -/
theorem wp_finish (Out : Memref sig .scVector .hbm S32x16 .f32) (o : Memref sig .scVector .vmem S16 .f32) (ho : o.IsWhole) (s : DmaSem sig)
    (fo : Buf (Elt F) ((oRow Out i).view.loc (tileT d i))) (f : Buf (Elt F) (o.view.loc (tileT d i))) (a : Acc F) {Q : PUnit → sProp 𝕄} :
    iprop((o.view.loc (tileT d i) ↦[Finset.univ]{fullShare} f) ∗ ((oRow Out i).view.loc (tileT d i) ↦[(oRow Out i).view.set]{fullShare} fo)
        ∗ semVal (tileT d i, .dma s) 0 ∗ owesAny ι d i O W ∗ MayWaits (tileT d i) ι O)
      ⊢ iprop((iprop((∃ f' : Buf (Elt F) (o.view.loc (tileT d i)), (o.view.loc (tileT d i) ↦[Finset.univ]{fullShare} f'))
              ∗ ((oRow Out i).view.loc (tileT d i) ↦[(oRow Out i).view.set]{fullShare}
                  ((oRow Out i).view.write (Elt F) fo (total a) Finset.univ))
              ∗ semVal (tileT d i, .dma s) 0 ∗ owesAny ι d i O W)
            -∗ Q ⟨⟩)
          -∗ wp frame (wpE defs 𝒱 (tileT d i) bd) Set.univ (finish i Out o ho s a) Q) := by
  unfold finish total
  generalize k0_pay275 a.1 a.2.1 a.2.2.1 a.2.2.2.1 a.2.2.2.2.1 a.2.2.2.2.2.1 a.2.2.2.2.2.2.1 a.2.2.2.2.2.2.2 = w
  iintro ⟨Ho, HOut, Hs, HO, #Hmw⟩ Hk
  iapply (wp_load_rect (c := tileT d i) 𝒱 bd Set.univ (m := o) (r := Rect.unit (s := S16) ![0] S16.size inb_S16_S16_0)
    (S := Finset.univ) (Finset.subset_univ _)) $$ Ho
  iintro Ho
  iapply (wp_store (c := tileT d i) 𝒱 bd Set.univ (m := o) (r := Rect.unit (s := S16) ![0] S16.size inb_S16_S16_0)
    (S := Finset.univ) (Finset.subset_univ _)) $$ Ho
  iintro Ho
  have er : o.view.read (Elt F) ((o.access (Rect.unit (s := S16) ![0] S16.size inb_S16_S16_0)).write (Elt F) f w Finset.univ)
      = w := by
    have h := View.read_write_univ (v := o.access (Rect.unit (s := S16) ![0] S16.size inb_S16_S16_0)) (Val := Elt F) f w
    funext y
    have hy : (Rect.unit (s := S16) ![0] S16.size inb_S16_S16_0).emb y = y := by
      funext k; apply Fin.ext
      match k with
      | ⟨0, _⟩ => show 0 + 1 * (y 0).val = (y 0).val; omega
    refine Eq.trans ?_ (congrFun h y)
    show _ = o.view.read (Elt F) _ ((Rect.unit (s := S16) ![0] S16.size inb_S16_S16_0).emb y)
    rw [hy]
  iapply (wp_dmaLocal (c := tileT d i) EC 𝒱 bd (src := o) (dst := oRow Out i) (sm := .dma s)
    (fs := (o.access (Rect.unit (s := S16) ![0] S16.size inb_S16_S16_0)).write (Elt F) f w Finset.univ) (fd := fo) (q := fullShare)
    (Sd := (oRow Out i).view.set) ι (oRow Out i).view.dmaCredit rfl (View.dmaCredit_pos _ (by decide)) (Finset.Subset.refl _)) $$ [Ho HOut Hs]
  · isplitl [Ho]
    · ihave Ho := (show ((o.access (Rect.unit (s := S16) ![0] S16.size inb_S16_S16_0)).loc (tileT d i) ↦[Finset.univ]{fullShare}
          ((o.access (Rect.unit (s := S16) ![0] S16.size inb_S16_S16_0)).write (Elt F) f w Finset.univ) : sProp 𝕄)
        ⊢ (o.view.loc (tileT d i) ↦[Finset.univ]{fullShare}
          ((o.access (Rect.unit (s := S16) ![0] S16.size inb_S16_S16_0)).write (Elt F) f w Finset.univ)) from Entails.of_eq rfl) $$ Ho
      ihave Ho := (Entails.of_eq (congrArg (fun S => (o.view.loc (tileT d i) ↦[S]{fullShare}
        ((o.access (Rect.unit (s := S16) ![0] S16.size inb_S16_S16_0)).write (Elt F) f w Finset.univ) : sProp 𝕄)) ho.set_eq_univ.symm)) $$ Ho
      iexact Ho
    isplitl [HOut]; · iexact HOut
    iexact Hs
  iintro HF
  ihave HO := (Entails.of_eq (show owesAny ι d i O W = iprop(∃ W', ⌜∀ p ∈ W', p ∈ W ∨ p.2 = ι⌝ ∗ owes (tileT d i) O W') from rfl)) $$ HO
  icases HO with ⟨%W', %hW', HO⟩
  iapply (wp_waitLocalO EC 𝒱 (tileT d i) bd (dstw := oRow Out i) ι rfl) $$ [HF HO]
  · isplitl [HF]; · iexact HF
    isplitl [HO]; · iexact HO
    iapply (MayWaits.elim (.dma s)) $$ Hmw
  iintro ⟨⟨HOut, Ho⟩, Hs, HO⟩
  ihave HO := (owesAny_insert (F := F) ι d i hW' s) $$ HO
  rw [wp_pure]
  imodintro
  iapply Hk
  isplitl [Ho]
  · iexists ((o.access (Rect.unit (s := S16) ![0] S16.size inb_S16_S16_0)).write (Elt F) f w Finset.univ)
    ihave Ho := (Entails.of_eq (congrArg (fun S => (o.view.loc (tileT d i) ↦[S]{fullShare}
        ((o.access (Rect.unit (s := S16) ![0] S16.size inb_S16_S16_0)).write (Elt F) f w Finset.univ) : sProp 𝕄)) ho.set_eq_univ)) $$ Ho
    iexact Ho
  isplitl [HOut]
  · ihave HOut := (Entails.of_eq (congrArg (fun w' => ((oRow Out i).view.loc (tileT d i) ↦[(oRow Out i).view.set]{fullShare}
        ((oRow Out i).view.write (Elt F) fo w' Finset.univ) : sProp 𝕄)) er)) $$ HOut
    iexact HOut
  isplitl [Hs]; · iexact Hs
  iexact HO

end Tile

end Cert.Proof

end
-- ==== Proof.Run.lean ====
/-
  One tile's whole run: the ring's invariant (each slot in flight with its next chunk, the accumulators those of the
  chunks already added), and the tile's triple.
-/
module

public import proofs.«01_k».proof.Proof.Tile

@[expose] public section

set_option maxRecDepth 16384

noncomputable section

namespace Cert.Proof

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- Chunk `n`, as one of 64. -/
def ch (n : ℕ) : Fin 64 := ⟨n % 64, Nat.mod_lt _ (by decide)⟩

theorem ch_val {n : ℕ} (h : n < 64) : (ch n).val = n := Nat.mod_eq_of_lt h

section Run

variable {Ix : Type} [DecidableEq Ix] {Name : Type} [DecidableEq Name] [Infinite Name]
variable {U : Type} [URA U] {Lvl : Type} [Preorder Lvl]

local notation "𝕄" => MT nD τ sig Ix (Elt F) Name U Lvl

variable (EC : UEmb Counters (MT nD τ sig Ix (Elt F) Name U Lvl))
  [EC.LandsIn (upEmb : UEmb _ (MT nD τ sig Ix (Elt F) Name U Lvl))] (ι : Ix)
variable {defs : Defs nD τ sig (Elt F) Λ₀} (𝒱 : Variants) (bd : Option 𝒱.V)
variable (d : Dev nD) (i : grid0.Coords)
  (X : Memref sig .scVector .hbm S16384x2048 .f32) (I : Memref sig .scVector .hbm S16384 .i32)
  (T : Memref sig .scVector .hbm S2048x1024 .i32) (hT : T.IsWhole) (R : Memref sig .scVector .hbm S32x16 .f32)
  (L : Memref sig .scVector .vmem S512 .i32) (hL : L.IsWhole)
  (x0 : Memref sig .scVector .vmem S8x2048 .f32) (hx0 : x0.IsWhole)
  (x1 : Memref sig .scVector .vmem S8x2048 .f32) (hx1 : x1.IsWhole)
  (x2 : Memref sig .scVector .vmem S8x2048 .f32) (hx2 : x2.IsWhole)
  (x3 : Memref sig .scVector .vmem S8x2048 .f32) (hx3 : x3.IsWhole)
  (x4 : Memref sig .scVector .vmem S8x2048 .f32) (hx4 : x4.IsWhole)
  (g0 : Memref sig .scVector .vmem S8x1024 .i32) (hg0 : g0.IsWhole)
  (g1 : Memref sig .scVector .vmem S8x1024 .i32) (hg1 : g1.IsWhole)
  (g2 : Memref sig .scVector .vmem S8x1024 .i32) (hg2 : g2.IsWhole)
  (g3 : Memref sig .scVector .vmem S8x1024 .i32) (hg3 : g3.IsWhole)
  (g4 : Memref sig .scVector .vmem S8x1024 .i32) (hg4 : g4.IsWhole)
  (o : Memref sig .scVector .vmem S16 .f32) (ho : o.IsWhole)
  (a0 a1 a2 a3 a4 b0 b1 b2 b3 b4 c0 c1 : DmaSems sig S_)
  (qx qi qt : PosShare TreeShare)
  (fx : Buf (Elt F) (X.view.loc (tileT d i))) (fi : Buf (Elt F) (I.view.loc (tileT d i))) (ft : Buf (Elt F) (T.view.loc (tileT d i)))
  (fl : Buf (Elt F) (L.view.loc (tileT d i)))
  (hfl : ∀ y, (L.view.read (Elt F) fl y : BitVec 32).toNat < 2048)
  (O : CellTallies nD τ sig Ix) (W : Waits sig Ix)

/-- The five slots in flight with chunks `n` to `n + 4`. -/
def slots (n : ℕ) : sProp 𝕄 :=
  iprop(slotF EC ι d i X T qx qt fullShare fx ft fl x0 g0 a0.sem b0.sem hfl 0 (ch (n + 0))
    ∗ slotF EC ι d i X T qx qt fullShare fx ft fl x1 g1 a1.sem b1.sem hfl 1 (ch (n + 1))
    ∗ slotF EC ι d i X T qx qt fullShare fx ft fl x2 g2 a2.sem b2.sem hfl 2 (ch (n + 2))
    ∗ slotF EC ι d i X T qx qt fullShare fx ft fl x3 g3 a3.sem b3.sem hfl 3 (ch (n + 3))
    ∗ slotF EC ι d i X T qx qt fullShare fx ft fl x4 g4 a4.sem b4.sem hfl 4 (ch (n + 4)))

/-- The ring's invariant before trip `t`: slots in flight with the next five chunks, the accumulators those of the
    chunks before. -/
def ringInv (t : ℕ) (acc : Acc F) : sProp 𝕄 :=
  iprop(⌜acc = tileAcc (X.view.read (Elt F) fx) (T.view.read (Elt F) ft) (L.view.read (Elt F) fl) i (5 * t)⌝
    ∗ slots EC ι d i X T L x0 x1 x2 x3 x4 g0 g1 g2 g3 g4 a0 a1 a2 a3 a4 b0 b1 b2 b3 b4 qx qt fx ft fl hfl (5 * t) ∗ owesAny ι d i O W ∗ MayWaits (tileT d i) ι O)

include hT hx0 hx1 hx2 hx3 hx4 hg0 hg1 hg2 hg3 hg4 in
/-- One trip of the ring. -/
theorem wp_ringBody (t : Fin k0_t1_loop.trips) (acc : Acc F) :
    (ringInv EC ι d i X T L x0 x1 x2 x3 x4 g0 g1 g2 g3 g4 a0 a1 a2 a3 a4 b0 b1 b2 b3 b4 qx qt fx ft fl hfl O W t.val acc : sProp 𝕄)
      ⊢ wp frame (wpE defs 𝒱 (tileT d i) bd) Set.univ
          (ringBody i X T L x0 hx0 x1 hx1 x2 hx2 x3 hx3 x4 hx4 g0 g1 g2 g3 g4 a0 a1 a2 a3 a4 b0 b1 b2 b3 b4 t acc)
          (ringInv EC ι d i X T L x0 x1 x2 x3 x4 g0 g1 g2 g3 g4 a0 a1 a2 a3 a4 b0 b1 b2 b3 b4 qx qt fx ft fl hfl O W (t.val + 1)) := by
  have ht : t.val < 11 := lt_of_lt_of_le t.isLt k0_t1_abs.2.1
  have hv : ∀ b : ℕ, b < 5 → (ch (5 * t.val + b)).val = 5 * t.val + b := fun b hb => ch_val (by omega)
  have hx : ∀ b : Fin 5, k0_off6 i t (BitVec.ofNat 32 b.val) = xOff i (ch (5 * (t.val + 1) + b.val)) := fun b => by
    have hb := b.isLt
    rw [k0_off6_eq, xOff, ch_val (by omega)]
    congr 1; omega
  have hl : ∀ b : Fin 5, k0_off7 t (BitVec.ofNat 32 b.val) = lOff (ch (5 * (t.val + 1) + b.val)) := fun b => by
    have hb := b.isLt
    rw [k0_off7_eq, lOff, ch_val (by omega)]
    congr 1; omega
  unfold ringInv slots ringBody
  iintro ⟨%e, ⟨H0, H1, H2, H3, H4⟩, HO, #Hmw⟩
  iapply (wp_awaitChunk EC ι 𝒱 bd d i X T qx qt fullShare fx ft fl x0 g0 a0.sem b0.sem hfl hT hg0 0 (ch (5 * t.val + 0)) hx0 _
    (e.trans (by rw [hv 0 (by decide)]; rfl))) $$ [H0 HO]
  · isplitl [H0]; · iexact H0
    isplitl [HO]; · iexact HO
    iexact Hmw
  iintro ⟨H0, HO⟩
  iapply (wp_issueF EC ι 𝒱 bd d i X T qx qt fullShare fx ft fl x0 g0 a0.sem b0.sem hfl hT hx0 hg0 0 (ch (5 * (t.val + 1) + 0)) _ _ _ _
    (hx 0) (hl 0) hx0) $$ H0
  iintro H0
  iapply (wp_awaitChunk EC ι 𝒱 bd d i X T qx qt fullShare fx ft fl x1 g1 a1.sem b1.sem hfl hT hg1 1 (ch (5 * t.val + 1)) hx1 _
    (by rw [hv 0 (by decide), hv 1 (by decide)])) $$ [H1 HO]
  · isplitl [H1]; · iexact H1
    isplitl [HO]; · iexact HO
    iexact Hmw
  iintro ⟨H1, HO⟩
  iapply (wp_issueF EC ι 𝒱 bd d i X T qx qt fullShare fx ft fl x1 g1 a1.sem b1.sem hfl hT hx1 hg1 1 (ch (5 * (t.val + 1) + 1)) _ _ _ _
    (hx 1) (hl 1) hx1) $$ H1
  iintro H1
  iapply (wp_awaitChunk EC ι 𝒱 bd d i X T qx qt fullShare fx ft fl x2 g2 a2.sem b2.sem hfl hT hg2 2 (ch (5 * t.val + 2)) hx2 _
    (by rw [hv 1 (by decide), hv 2 (by decide)])) $$ [H2 HO]
  · isplitl [H2]; · iexact H2
    isplitl [HO]; · iexact HO
    iexact Hmw
  iintro ⟨H2, HO⟩
  iapply (wp_issueF EC ι 𝒱 bd d i X T qx qt fullShare fx ft fl x2 g2 a2.sem b2.sem hfl hT hx2 hg2 2 (ch (5 * (t.val + 1) + 2)) _ _ _ _
    (hx 2) (hl 2) hx2) $$ H2
  iintro H2
  iapply (wp_awaitChunk EC ι 𝒱 bd d i X T qx qt fullShare fx ft fl x3 g3 a3.sem b3.sem hfl hT hg3 3 (ch (5 * t.val + 3)) hx3 _
    (by rw [hv 2 (by decide), hv 3 (by decide)])) $$ [H3 HO]
  · isplitl [H3]; · iexact H3
    isplitl [HO]; · iexact HO
    iexact Hmw
  iintro ⟨H3, HO⟩
  iapply (wp_issueF EC ι 𝒱 bd d i X T qx qt fullShare fx ft fl x3 g3 a3.sem b3.sem hfl hT hx3 hg3 3 (ch (5 * (t.val + 1) + 3)) _ _ _ _
    (hx 3) (hl 3) hx3) $$ H3
  iintro H3
  iapply (wp_awaitChunk EC ι 𝒱 bd d i X T qx qt fullShare fx ft fl x4 g4 a4.sem b4.sem hfl hT hg4 4 (ch (5 * t.val + 4)) hx4 _
    (by rw [hv 3 (by decide), hv 4 (by decide)])) $$ [H4 HO]
  · isplitl [H4]; · iexact H4
    isplitl [HO]; · iexact HO
    iexact Hmw
  iintro ⟨H4, HO⟩
  iapply (wp_issueF EC ι 𝒱 bd d i X T qx qt fullShare fx ft fl x4 g4 a4.sem b4.sem hfl hT hx4 hg4 4 (ch (5 * (t.val + 1) + 4)) _ _ _ _
    (hx 4) (hl 4) hx4) $$ H4
  iintro H4
  rw [wp_pure]
  imodintro
  isplitr
  · ipureintro; rw [hv 4 (by decide)]; rfl
  isplitl [H0 H1 H2 H3 H4]
  · isplitl [H0]; · iexact H0
    isplitl [H1]; · iexact H1
    isplitl [H2]; · iexact H2
    isplitl [H3]; · iexact H3
    iexact H4
  isplitl [HO]; · iexact HO
  iexact Hmw

/-- What a tile is given of its buffers: each whole, whatever it holds. -/
def tileBufs : sProp 𝕄 :=
  iprop((∃ f : Buf (Elt F) (L.view.loc (tileT d i)), (L.view.loc (tileT d i) ↦[Finset.univ]{fullShare} f))
    ∗ (∃ f : Buf (Elt F) (x0.view.loc (tileT d i)), (x0.view.loc (tileT d i) ↦[Finset.univ]{fullShare} f))
    ∗ (∃ f : Buf (Elt F) (x1.view.loc (tileT d i)), (x1.view.loc (tileT d i) ↦[Finset.univ]{fullShare} f))
    ∗ (∃ f : Buf (Elt F) (x2.view.loc (tileT d i)), (x2.view.loc (tileT d i) ↦[Finset.univ]{fullShare} f))
    ∗ (∃ f : Buf (Elt F) (x3.view.loc (tileT d i)), (x3.view.loc (tileT d i) ↦[Finset.univ]{fullShare} f))
    ∗ (∃ f : Buf (Elt F) (x4.view.loc (tileT d i)), (x4.view.loc (tileT d i) ↦[Finset.univ]{fullShare} f))
    ∗ (∃ f : Buf (Elt F) (g0.view.loc (tileT d i)), (g0.view.loc (tileT d i) ↦[Finset.univ]{fullShare} f))
    ∗ (∃ f : Buf (Elt F) (g1.view.loc (tileT d i)), (g1.view.loc (tileT d i) ↦[Finset.univ]{fullShare} f))
    ∗ (∃ f : Buf (Elt F) (g2.view.loc (tileT d i)), (g2.view.loc (tileT d i) ↦[Finset.univ]{fullShare} f))
    ∗ (∃ f : Buf (Elt F) (g3.view.loc (tileT d i)), (g3.view.loc (tileT d i) ↦[Finset.univ]{fullShare} f))
    ∗ (∃ f : Buf (Elt F) (g4.view.loc (tileT d i)), (g4.view.loc (tileT d i) ↦[Finset.univ]{fullShare} f))
    ∗ (∃ f : Buf (Elt F) (o.view.loc (tileT d i)), (o.view.loc (tileT d i) ↦[Finset.univ]{fullShare} f)))

/-- What a tile is given of its semaphores: each at zero. -/
def tileSems : sProp 𝕄 :=
  iprop(semVal (tileT d i, .dma a0.sem) 0
    ∗ semVal (tileT d i, .dma a1.sem) 0
    ∗ semVal (tileT d i, .dma a2.sem) 0
    ∗ semVal (tileT d i, .dma a3.sem) 0
    ∗ semVal (tileT d i, .dma a4.sem) 0
    ∗ semVal (tileT d i, .dma b0.sem) 0
    ∗ semVal (tileT d i, .dma b1.sem) 0
    ∗ semVal (tileT d i, .dma b2.sem) 0
    ∗ semVal (tileT d i, .dma b3.sem) 0
    ∗ semVal (tileT d i, .dma b4.sem) 0
    ∗ semVal (tileT d i, .dma c0.sem) 0
    ∗ semVal (tileT d i, .dma c1.sem) 0)

include EC hT hx0 hx1 hx2 hx3 hx4 hg0 hg1 hg2 hg3 hg4 hL in
/-- ONE TILE'S RUN: from its shares of the features, the list and the table and its row of the result, the row written
    with the tile's lanes; its buffers and semaphores given back. -/
theorem wp_tile (fr : Buf (Elt F) ((oRow R i).view.loc (tileT d i)))
    (hfi : ∀ y, (I.view.read (Elt F) fi y : BitVec 32).toNat < 2048) {Q : PUnit → sProp 𝕄} :
    iprop(((X.view.loc (tileT d i) ↦[Finset.univ]{qx} fx) ∗ (I.view.loc (tileT d i) ↦[Finset.univ]{qi} fi)
          ∗ (T.view.loc (tileT d i) ↦[Finset.univ]{qt} ft) ∗ ((oRow R i).view.loc (tileT d i) ↦[(oRow R i).view.set]{fullShare} fr))
        ∗ tileBufs (F := F) d i L x0 x1 x2 x3 x4 g0 g1 g2 g3 g4 o ∗ tileSems (F := F) d i a0 a1 a2 a3 a4 b0 b1 b2 b3 b4 c0 c1
        ∗ owesAny ι d i O W ∗ MayWaits (tileT d i) ι O)
      ⊢ iprop((iprop(((X.view.loc (tileT d i) ↦[Finset.univ]{qx} fx) ∗ (I.view.loc (tileT d i) ↦[Finset.univ]{qi} fi)
            ∗ (T.view.loc (tileT d i) ↦[Finset.univ]{qt} ft) ∗ ((oRow R i).view.loc (tileT d i) ↦[(oRow R i).view.set]{fullShare}
              ((oRow R i).view.write (Elt F) fr (tileOut (X.view.read (Elt F) fx) (I.view.read (Elt F) fi) (T.view.read (Elt F) ft) i) Finset.univ)))
          ∗ tileBufs (F := F) d i L x0 x1 x2 x3 x4 g0 g1 g2 g3 g4 o ∗ tileSems (F := F) d i a0 a1 a2 a3 a4 b0 b1 b2 b3 b4 c0 c1
          ∗ owesAny ι d i O W) -∗ Q ⟨⟩)
        -∗ wp frame (wpE defs 𝒱 (tileT d i) bd) Set.univ
          (tileProg i X I T R L hL x0 hx0 x1 hx1 x2 hx2 x3 hx3 x4 hx4 g0 g1 g2 g3 g4 o ho a0 a1 a2 a3 a4 b0 b1 b2 b3 b4 c0 c1) Q) := by
  unfold tileBufs tileSems tileProg
  iintro ⟨⟨HX, HI, HT, HR⟩, ⟨⟨%fL, HL⟩, ⟨%fb0, B0⟩, ⟨%fb1, B1⟩, ⟨%fb2, B2⟩, ⟨%fb3, B3⟩, ⟨%fb4, B4⟩, ⟨%gb0, G0⟩, ⟨%gb1, G1⟩, ⟨%gb2, G2⟩, ⟨%gb3, G3⟩, ⟨%gb4, G4⟩, ⟨%fo, Bo⟩⟩, ⟨SA0, SA1, SA2, SA3, SA4, SB0, SB1, SB2, SB3, SB4, C0, C1⟩, HO, #Hmw⟩ Hk
  iapply (wp_fetch EC ι 𝒱 bd d i I L hL c0.sem qi fi fL) $$ [HI HL C0 HO]
  · isplitl [HI]; · iexact HI
    isplitl [HL]; · iexact HL
    isplitl [C0]; · iexact C0
    isplitl [HO]; · iexact HO
    iexact Hmw
  iintro ⟨HI, ⟨%fl, %hl, HL⟩, C0, HO⟩
  have hfl : ∀ y, (L.view.read (Elt F) fl y : BitVec 32).toNat < 2048 := fun y => by rw [hl]; exact hfi _
  ihave HX := (Entails.of_eq ((pointsTo_piecesOf (ℓ := X.view.loc (tileT d i)) Finset.univ fx (o := 5) (by decide) qx).trans (bigSep_five _))) $$ HX
  ihave HT := (Entails.of_eq ((pointsTo_piecesOf (ℓ := T.view.loc (tileT d i)) Finset.univ ft (o := 5) (by decide) qt).trans (bigSep_five _))) $$ HT
  ihave HL := (Entails.of_eq ((pointsTo_piecesOf (ℓ := L.view.loc (tileT d i)) Finset.univ fl (o := 5) (by decide) fullShare).trans (bigSep_five _))) $$ HL
  icases HX with ⟨X0, X1, X2, X3, X4⟩
  icases HT with ⟨T0, T1, T2, T3, T4⟩
  icases HL with ⟨L0, L1, L2, L3, L4⟩
  ihave H0 := (slotI_intro (F := F) d i X T L qx qt fullShare fx ft fl x0 g0 a0.sem b0.sem 0 fb0 gb0) $$ [X0 T0 L0 B0 G0 SA0 SB0]
  · isplitl [B0]; · iexact B0
    isplitl [G0]; · iexact G0
    isplitl [X0 T0 L0]
    · isplitl [X0]; · iexact X0
      isplitl [T0] <;> iassumption
    isplitl [SA0] <;> iassumption
  iapply (wp_issueF EC ι 𝒱 bd d i X T qx qt fullShare fx ft fl x0 g0 a0.sem b0.sem hfl hT hx0 hg0 0 (ch 0) _ _ _ _
    (k0_off2_closed i 0) rfl hx0) $$ H0
  iintro H0
  ihave H1 := (slotI_intro (F := F) d i X T L qx qt fullShare fx ft fl x1 g1 a1.sem b1.sem 1 fb1 gb1) $$ [X1 T1 L1 B1 G1 SA1 SB1]
  · isplitl [B1]; · iexact B1
    isplitl [G1]; · iexact G1
    isplitl [X1 T1 L1]
    · isplitl [X1]; · iexact X1
      isplitl [T1] <;> iassumption
    isplitl [SA1] <;> iassumption
  iapply (wp_issueF EC ι 𝒱 bd d i X T qx qt fullShare fx ft fl x1 g1 a1.sem b1.sem hfl hT hx1 hg1 1 (ch 1) _ _ _ _
    (k0_off2_closed i 1) rfl hx1) $$ H1
  iintro H1
  ihave H2 := (slotI_intro (F := F) d i X T L qx qt fullShare fx ft fl x2 g2 a2.sem b2.sem 2 fb2 gb2) $$ [X2 T2 L2 B2 G2 SA2 SB2]
  · isplitl [B2]; · iexact B2
    isplitl [G2]; · iexact G2
    isplitl [X2 T2 L2]
    · isplitl [X2]; · iexact X2
      isplitl [T2] <;> iassumption
    isplitl [SA2] <;> iassumption
  iapply (wp_issueF EC ι 𝒱 bd d i X T qx qt fullShare fx ft fl x2 g2 a2.sem b2.sem hfl hT hx2 hg2 2 (ch 2) _ _ _ _
    (k0_off2_closed i 2) rfl hx2) $$ H2
  iintro H2
  ihave H3 := (slotI_intro (F := F) d i X T L qx qt fullShare fx ft fl x3 g3 a3.sem b3.sem 3 fb3 gb3) $$ [X3 T3 L3 B3 G3 SA3 SB3]
  · isplitl [B3]; · iexact B3
    isplitl [G3]; · iexact G3
    isplitl [X3 T3 L3]
    · isplitl [X3]; · iexact X3
      isplitl [T3] <;> iassumption
    isplitl [SA3] <;> iassumption
  iapply (wp_issueF EC ι 𝒱 bd d i X T qx qt fullShare fx ft fl x3 g3 a3.sem b3.sem hfl hT hx3 hg3 3 (ch 3) _ _ _ _
    (k0_off2_closed i 3) rfl hx3) $$ H3
  iintro H3
  ihave H4 := (slotI_intro (F := F) d i X T L qx qt fullShare fx ft fl x4 g4 a4.sem b4.sem 4 fb4 gb4) $$ [X4 T4 L4 B4 G4 SA4 SB4]
  · isplitl [B4]; · iexact B4
    isplitl [G4]; · iexact G4
    isplitl [X4 T4 L4]
    · isplitl [X4]; · iexact X4
      isplitl [T4] <;> iassumption
    isplitl [SA4] <;> iassumption
  iapply (wp_issueF EC ι 𝒱 bd d i X T qx qt fullShare fx ft fl x4 g4 a4.sem b4.sem hfl hT hx4 hg4 4 (ch 4) _ _ _ _
    (k0_off2_closed i 4) rfl hx4) $$ H4
  iintro H4
  unfold ring
  iapply (Scf.wp_for_bind frame (wpE defs 𝒱 (tileT d i) bd) Set.univ k0_t1_loop.lb k0_t1_loop.ub k0_t1_loop.st k0_t1_ok zeroAcc _
    (ringInv EC ι d i X T L x0 x1 x2 x3 x4 g0 g1 g2 g3 g4 a0 a1 a2 a3 a4 b0 b1 b2 b3 b4 qx qt fx ft fl hfl O W)
    (wp_ringBody EC ι 𝒱 bd d i X T hT L x0 hx0 x1 hx1 x2 hx2 x3 hx3 x4 hx4 g0 hg0 g1 hg1 g2 hg2 g3 hg3 g4 hg4 a0 a1 a2 a3 a4 b0 b1 b2 b3 b4 qx qt fx ft fl hfl O W)) $$ [H0 H1 H2 H3 H4 HO]
  · unfold ringInv slots
    isplitr
    · ipureintro; rfl
    isplitl [H0 H1 H2 H3 H4]
    · isplitl [H0]; · iexact H0
      isplitl [H1]; · iexact H1
      isplitl [H2]; · iexact H2
      isplitl [H3]; · iexact H3
      iexact H4
    isplitl [HO]; · iexact HO
    iexact Hmw
  iintro %acc H
  ihave H := (Entails.of_eq (congrArg (fun n => ringInv EC ι d i X T L x0 x1 x2 x3 x4 g0 g1 g2 g3 g4 a0 a1 a2 a3 a4 b0 b1 b2 b3 b4 qx qt fx ft fl hfl O W n acc) (show Scf.trips k0_t1_loop.lb k0_t1_loop.ub k0_t1_loop.st = 11 from by decide +kernel))) $$ H
  unfold ringInv slots
  icases H with ⟨%e, ⟨H0, H1, H2, H3, H4⟩, HO, -⟩
  subst e
  iapply (wp_awaitChunk EC ι 𝒱 bd d i X T qx qt fullShare fx ft fl x0 g0 a0.sem b0.sem hfl hT hg0 0 (ch 55) hx0 _ rfl) $$ [H0 HO]
  · isplitl [H0]; · iexact H0
    isplitl [HO]; · iexact HO
    iexact Hmw
  iintro ⟨H0, HO⟩
  iapply (wp_issueF EC ι 𝒱 bd d i X T qx qt fullShare fx ft fl x0 g0 a0.sem b0.sem hfl hT hx0 hg0 0 (ch 60) _ _ _ _
    (k0_off2_closed i 5) rfl hx0) $$ H0
  iintro H0
  iapply (wp_awaitChunk EC ι 𝒱 bd d i X T qx qt fullShare fx ft fl x1 g1 a1.sem b1.sem hfl hT hg1 1 (ch 56) hx1 _ rfl) $$ [H1 HO]
  · isplitl [H1]; · iexact H1
    isplitl [HO]; · iexact HO
    iexact Hmw
  iintro ⟨H1, HO⟩
  iapply (wp_issueF EC ι 𝒱 bd d i X T qx qt fullShare fx ft fl x1 g1 a1.sem b1.sem hfl hT hx1 hg1 1 (ch 61) _ _ _ _
    (k0_off2_closed i 6) rfl hx1) $$ H1
  iintro H1
  iapply (wp_awaitChunk EC ι 𝒱 bd d i X T qx qt fullShare fx ft fl x2 g2 a2.sem b2.sem hfl hT hg2 2 (ch 57) hx2 _ rfl) $$ [H2 HO]
  · isplitl [H2]; · iexact H2
    isplitl [HO]; · iexact HO
    iexact Hmw
  iintro ⟨H2, HO⟩
  iapply (wp_issueF EC ι 𝒱 bd d i X T qx qt fullShare fx ft fl x2 g2 a2.sem b2.sem hfl hT hx2 hg2 2 (ch 62) _ _ _ _
    (k0_off2_closed i 7) rfl hx2) $$ H2
  iintro H2
  iapply (wp_awaitChunk EC ι 𝒱 bd d i X T qx qt fullShare fx ft fl x3 g3 a3.sem b3.sem hfl hT hg3 3 (ch 58) hx3 _ rfl) $$ [H3 HO]
  · isplitl [H3]; · iexact H3
    isplitl [HO]; · iexact HO
    iexact Hmw
  iintro ⟨H3, HO⟩
  iapply (wp_issueF EC ι 𝒱 bd d i X T qx qt fullShare fx ft fl x3 g3 a3.sem b3.sem hfl hT hx3 hg3 3 (ch 63) _ _ _ _
    (k0_off2_closed i 8) rfl hx3) $$ H3
  iintro H3
  iapply (wp_awaitChunk EC ι 𝒱 bd d i X T qx qt fullShare fx ft fl x4 g4 a4.sem b4.sem hfl hT hg4 4 (ch 59) hx4 _ rfl) $$ [H4 HO]
  · isplitl [H4]; · iexact H4
    isplitl [HO]; · iexact HO
    iexact Hmw
  iintro ⟨H4, HO⟩
  iapply (wp_awaitChunk EC ι 𝒱 bd d i X T qx qt fullShare fx ft fl x0 g0 a0.sem b0.sem hfl hT hg0 0 (ch 60) hx0 _ rfl) $$ [H0 HO]
  · isplitl [H0]; · iexact H0
    isplitl [HO]; · iexact HO
    iexact Hmw
  iintro ⟨H0, HO⟩
  iapply (wp_awaitChunk EC ι 𝒱 bd d i X T qx qt fullShare fx ft fl x1 g1 a1.sem b1.sem hfl hT hg1 1 (ch 61) hx1 _ rfl) $$ [H1 HO]
  · isplitl [H1]; · iexact H1
    isplitl [HO]; · iexact HO
    iexact Hmw
  iintro ⟨H1, HO⟩
  iapply (wp_awaitChunk EC ι 𝒱 bd d i X T qx qt fullShare fx ft fl x2 g2 a2.sem b2.sem hfl hT hg2 2 (ch 62) hx2 _ rfl) $$ [H2 HO]
  · isplitl [H2]; · iexact H2
    isplitl [HO]; · iexact HO
    iexact Hmw
  iintro ⟨H2, HO⟩
  iapply (wp_awaitChunk EC ι 𝒱 bd d i X T qx qt fullShare fx ft fl x3 g3 a3.sem b3.sem hfl hT hg3 3 (ch 63) hx3 _ rfl) $$ [H3 HO]
  · isplitl [H3]; · iexact H3
    isplitl [HO]; · iexact HO
    iexact Hmw
  iintro ⟨H3, HO⟩
  iapply (wp_finish EC ι 𝒱 bd d i R o ho c1.sem fr fo _) $$ [HR Bo C1 HO]
  · isplitl [Bo]; · iexact Bo
    isplitl [HR]; · iexact HR
    isplitl [C1]; · iexact C1
    isplitl [HO]; · iexact HO
    iexact Hmw
  iintro ⟨⟨%fo', Bo⟩, HR, C1, HO⟩
  ihave H0 := (slotI_elim (F := F) d i X T L qx qt fullShare fx ft fl x0 g0 a0.sem b0.sem 0) $$ H0
  icases H0 with ⟨B0, G0, ⟨X0, T0, L0⟩, SA0, SB0⟩
  ihave H1 := (slotI_elim (F := F) d i X T L qx qt fullShare fx ft fl x1 g1 a1.sem b1.sem 1) $$ H1
  icases H1 with ⟨B1, G1, ⟨X1, T1, L1⟩, SA1, SB1⟩
  ihave H2 := (slotI_elim (F := F) d i X T L qx qt fullShare fx ft fl x2 g2 a2.sem b2.sem 2) $$ H2
  icases H2 with ⟨B2, G2, ⟨X2, T2, L2⟩, SA2, SB2⟩
  ihave H3 := (slotI_elim (F := F) d i X T L qx qt fullShare fx ft fl x3 g3 a3.sem b3.sem 3) $$ H3
  icases H3 with ⟨B3, G3, ⟨X3, T3, L3⟩, SA3, SB3⟩
  ihave H4 := (slotI_elim (F := F) d i X T L qx qt fullShare fx ft fl x4 g4 a4.sem b4.sem 4) $$ H4
  icases H4 with ⟨B4, G4, ⟨X4, T4, L4⟩, SA4, SB4⟩
  ihave HX := (Entails.of_eq ((pointsTo_piecesOf (ℓ := X.view.loc (tileT d i)) Finset.univ fx (o := 5) (by decide) qx).trans (bigSep_five _)).symm) $$ [X0 X1 X2 X3 X4]
  · isplitl [X0]; · iexact X0
    isplitl [X1]; · iexact X1
    isplitl [X2]; · iexact X2
    isplitl [X3]; · iexact X3
    iexact X4
  ihave HT := (Entails.of_eq ((pointsTo_piecesOf (ℓ := T.view.loc (tileT d i)) Finset.univ ft (o := 5) (by decide) qt).trans (bigSep_five _)).symm) $$ [T0 T1 T2 T3 T4]
  · isplitl [T0]; · iexact T0
    isplitl [T1]; · iexact T1
    isplitl [T2]; · iexact T2
    isplitl [T3]; · iexact T3
    iexact T4
  ihave HL := (Entails.of_eq ((pointsTo_piecesOf (ℓ := L.view.loc (tileT d i)) Finset.univ fl (o := 5) (by decide) fullShare).trans (bigSep_five _)).symm) $$ [L0 L1 L2 L3 L4]
  · isplitl [L0]; · iexact L0
    isplitl [L1]; · iexact L1
    isplitl [L2]; · iexact L2
    isplitl [L3]; · iexact L3
    iexact L4
  iapply Hk
  isplitl [HX HI HT HR]
  · isplitl [HX]; · iexact HX
    isplitl [HI]; · iexact HI
    isplitl [HT]; · iexact HT
    ihave HR := (Entails.of_eq (congrArg (fun w => ((oRow R i).view.loc (tileT d i) ↦[(oRow R i).view.set]{fullShare}
      ((oRow R i).view.write (Elt F) fr w Finset.univ) : sProp 𝕄))
      (show total (tileAcc (X.view.read (Elt F) fx) (T.view.read (Elt F) ft) (L.view.read (Elt F) fl) i ((ch 63).val + 1))
        = tileOut (X.view.read (Elt F) fx) (I.view.read (Elt F) fi) (T.view.read (Elt F) ft) i from by rw [hl]; rfl))) $$ HR
    iexact HR
  isplitr [SA0 SA1 SA2 SA3 SA4 SB0 SB1 SB2 SB3 SB4 C0 C1 HO]
  · isplitl [HL]; · iexists fl; iexact HL
    isplitl [B0]; · iexact B0
    isplitl [B1]; · iexact B1
    isplitl [B2]; · iexact B2
    isplitl [B3]; · iexact B3
    isplitl [B4]; · iexact B4
    isplitl [G0]; · iexact G0
    isplitl [G1]; · iexact G1
    isplitl [G2]; · iexact G2
    isplitl [G3]; · iexact G3
    isplitl [G4]; · iexact G4
    iexists fo'; iexact Bo
  isplitr [HO]
  · isplitl [SA0]; · iexact SA0
    isplitl [SA1]; · iexact SA1
    isplitl [SA2]; · iexact SA2
    isplitl [SA3]; · iexact SA3
    isplitl [SA4]; · iexact SA4
    isplitl [SB0]; · iexact SB0
    isplitl [SB1]; · iexact SB1
    isplitl [SB2]; · iexact SB2
    isplitl [SB3]; · iexact SB3
    isplitl [SB4]; · iexact SB4
    isplitl [C0]; · iexact C0
    iexact C1
  iexact HO

end Run

end Cert.Proof

end
-- ==== Proof.Launch.lean ====
/-
  The launch: what the one SparseCore call hands each SparseCore and each tile (shares of the features, the list and the
  table, and the tile's row of the partial sums), and the obligation of a tile, met by the tile's run (`wp_tile`).
-/
module

public import proofs.«01_k».proof.Proof.Run
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts about the launch semaphores that the launch theorem takes, decided. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev xLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v0

local notation "xV" => (Memref.whole Cert.KernelIdeal.main_arg0_scv : Memref Cert.KernelIdeal.sig Kind.scVector Space.hbm Cert.KernelIdeal.S16384x2048 EltTy.f32)
local notation "iV" => (Memref.whole Cert.KernelIdeal.main_arg1_scv : Memref Cert.KernelIdeal.sig Kind.scVector Space.hbm Cert.KernelIdeal.S16384 EltTy.i32)
local notation "tV" => (Memref.whole Cert.KernelIdeal.main_arg2_scv : Memref Cert.KernelIdeal.sig Kind.scVector Space.hbm Cert.KernelIdeal.S2048x1024 EltTy.i32)
local notation "oV" => (Memref.whole Cert.KernelIdeal.main_v0_scv : Memref Cert.KernelIdeal.sig Kind.scVector Space.hbm Cert.KernelIdeal.S32x16 EltTy.f32)
local notation "lB" => (Memref.whole Cert.KernelIdeal.cc0_scratch0 : Memref Cert.KernelIdeal.sig Kind.scVector Space.vmem Cert.KernelIdeal.S512 EltTy.i32)
local notation "xB0" => (Memref.whole Cert.KernelIdeal.cc0_scratch1 : Memref Cert.KernelIdeal.sig Kind.scVector Space.vmem Cert.KernelIdeal.S8x2048 EltTy.f32)
local notation "xB1" => (Memref.whole Cert.KernelIdeal.cc0_scratch2 : Memref Cert.KernelIdeal.sig Kind.scVector Space.vmem Cert.KernelIdeal.S8x2048 EltTy.f32)
local notation "xB2" => (Memref.whole Cert.KernelIdeal.cc0_scratch3 : Memref Cert.KernelIdeal.sig Kind.scVector Space.vmem Cert.KernelIdeal.S8x2048 EltTy.f32)
local notation "xB3" => (Memref.whole Cert.KernelIdeal.cc0_scratch4 : Memref Cert.KernelIdeal.sig Kind.scVector Space.vmem Cert.KernelIdeal.S8x2048 EltTy.f32)
local notation "xB4" => (Memref.whole Cert.KernelIdeal.cc0_scratch5 : Memref Cert.KernelIdeal.sig Kind.scVector Space.vmem Cert.KernelIdeal.S8x2048 EltTy.f32)
local notation "gB0" => (Memref.whole Cert.KernelIdeal.cc0_scratch6 : Memref Cert.KernelIdeal.sig Kind.scVector Space.vmem Cert.KernelIdeal.S8x1024 EltTy.i32)
local notation "gB1" => (Memref.whole Cert.KernelIdeal.cc0_scratch7 : Memref Cert.KernelIdeal.sig Kind.scVector Space.vmem Cert.KernelIdeal.S8x1024 EltTy.i32)
local notation "gB2" => (Memref.whole Cert.KernelIdeal.cc0_scratch8 : Memref Cert.KernelIdeal.sig Kind.scVector Space.vmem Cert.KernelIdeal.S8x1024 EltTy.i32)
local notation "gB3" => (Memref.whole Cert.KernelIdeal.cc0_scratch9 : Memref Cert.KernelIdeal.sig Kind.scVector Space.vmem Cert.KernelIdeal.S8x1024 EltTy.i32)
local notation "gB4" => (Memref.whole Cert.KernelIdeal.cc0_scratch10 : Memref Cert.KernelIdeal.sig Kind.scVector Space.vmem Cert.KernelIdeal.S8x1024 EltTy.i32)
local notation "aB" => (Memref.whole Cert.KernelIdeal.cc0_scratch11 : Memref Cert.KernelIdeal.sig Kind.scVector Space.vmem Cert.KernelIdeal.S16 EltTy.f32)

/-- The grid point of SparseCore `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The share of an array that SparseCore `c` reads, and of it the share its tile `s` reads. -/
abbrev coreShare (c : Fin 2) : PosShare TreeShare := pieceOf fullShare 2 (by decide) c
abbrev tileShare (c : Fin 2) (s : Fin 16) : PosShare TreeShare := pieceOf (coreShare c) 16 (by decide) s

/-- Row `2s + c` of the partial sums, the row of SparseCore `c`'s tile `s`. -/
abbrev rowSet (c : Fin 2) (s : Fin 16) : Finset S32x16.Idx := (oRow oV (coordsV c s)).view.set

variable [FloatOps F]

/-- The partial sums: row `w` holds the lanes of SparseCore `w % 2`'s tile `w / 2`. -/
def partials (vX : S16384x2048.Idx → Elt F .f32) (vI : S16384.Idx → Elt F .i32) (vT : S2048x1024.Idx → Elt F .i32) :
    S32x16.Idx → Elt F .f32 :=
  fun y => tileOut vX vI vT
    (coordsV ⟨(y 0).val % 2, Nat.mod_lt _ (by decide)⟩ ⟨(y 0).val / 2, Nat.div_lt_of_lt_mul (y 0).isLt⟩) (ValueIdx.ix1 (y 1))

/-! ## What the handshakes carry -/

abbrev xPts (d : Dev nD) (q : PosShare TreeShare) : sProp 𝕄 := xLoc d ↦{q} m (xLoc d)
abbrev iPts (d : Dev nD) (q : PosShare TreeShare) : sProp 𝕄 := iLoc d ↦{q} m (iLoc d)
abbrev tPts (d : Dev nD) (q : PosShare TreeShare) : sProp 𝕄 := tLoc d ↦{q} m (tLoc d)
/-- The tile's row, at what the array holds, and at the partial sums. -/
abbrev rowPts (d : Dev nD) (c : Fin 2) (s : Fin 16) (f : Buf (Elt F) (oLoc d)) : sProp 𝕄 := oLoc d ↦[rowSet c s]{fullShare} f

/-- The partial sums of the launch memory. -/
abbrev outOf (d : Dev nD) : Buf (Elt F) (oLoc d) := partials (m (xLoc d)) (m (iLoc d)) (m (tLoc d))

/-- What a SparseCore takes and hands back: its shares of the three arguments and its sixteen rows. -/
abbrev coreRes (d : Dev nD) (c : Fin 2) (f : Buf (Elt F) (oLoc d)) : sProp 𝕄 :=
  iprop((xPts m d (coreShare c) ∗ iPts m d (coreShare c) ∗ tPts m d (coreShare c))
    ∗ bigSep Finset.univ fun s : Fin 16 => rowPts d c s f)
/-- What a tile takes and hands back: its shares of the three arguments and its row. -/
abbrev tileRes (d : Dev nD) (c : Fin 2) (s : Fin 16) (f : Buf (Elt F) (oLoc d)) : sProp 𝕄 :=
  iprop((xPts m d (tileShare c s) ∗ iPts m d (tileShare c s) ∗ tPts m d (tileShare c s)) ∗ rowPts d c s f)

/-- The call's hand-over: the rows go out as the launch memory holds them and come back at the partial sums. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (outOf m d)
  go := fun q d c i => match q with | 0 => tileRes m d (Fin.cast nCore_zero c) (Fin.cast nSub_zero i) (m (oLoc d))
  td := fun q d c i => match q with | 0 => tileRes m d (Fin.cast nCore_zero c) (Fin.cast nSub_zero i) (outOf m d)
  x := fun _ _ => iprop(emp)

instance P_storable : (P (F := F) m).IsStorable where
  st q d c := match q with
    | 0 => (inferInstance : BI.Storable (upEmb : UEmb _ 𝕄) (coreRes m d (Fin.cast nCore_zero c) (m (oLoc d))))
  dn q d c := match q with
    | 0 => (inferInstance : BI.Storable (upEmb : UEmb _ 𝕄) (coreRes m d (Fin.cast nCore_zero c) (outOf m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (outOf m d)))

/-- What the proof asks of the launch memory: every entry of the list is below 2048. -/
def PreOK : Prop := ∀ (d : Dev nD) (j : S16384.Idx), (m (iLoc d) j : BitVec 32).toNat < 2048

/-! ## A tile's own buffers and semaphores -/

section Tile

variable (d : Dev nD) (c : Fin 2) (s : Fin 16)

abbrev cV (c : Fin 2) : Fin τ.nSC := c.castLE (show 2 ≤ τ.nSC from hcore0)
abbrev jV (s : Fin 16) : Fin τ.nSub := s.castLE (show 16 ≤ τ.nSub from hsub0)
/-- The tile's thread. -/
abbrev thr (d : Dev nD) (c : Fin 2) (s : Fin 16) : Thread nD τ := V d (cV c) (jV s)

omit [FloatOps F] in
/-- A separating conjunction over twelve indices, written out. -/
theorem bigSep_twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} from by decide]
  iterate 11 rw [bigSep_insert (by decide)]
  rw [bigSep_singleton]
  rfl

omit [FloatOps F] in
/-- A separating conjunction over a set that contains the twelve points `e 0 … e 11`: those, and the rest. -/
theorem bigSep_twelve_of {J : Type} [DecidableEq J] (A : Finset J) (e : Fin 12 ↪ J) (h : ∀ k, e k ∈ A) (Φ : J → sProp 𝕄) :
    bigSep A Φ = iprop((bigSep Finset.univ fun k : Fin 12 => Φ (e k)) ∗ bigSep (A \ Finset.univ.map e) Φ) := by
  have hsub : Finset.univ.map e ⊆ A := fun x hx => by
    obtain ⟨k, -, rfl⟩ := Finset.mem_map.mp hx
    exact h k
  conv_lhs => rw [← Finset.union_sdiff_of_subset hsub]
  rw [bigSep_union Finset.disjoint_sdiff, bigSep_map]
  rfl

/-- Semaphore `k` of the tile, and buffer `k` of the tile. -/
def semE (t : Thread nD τ) : Fin 12 ↪ GSem nD τ sig := ⟨fun k => (t, .dma k), fun a b h => by simpa using h⟩
def bufE (c : Fin τ.nSC) (s : Fin τ.nSub) : Fin 12 ↪ DevRef τ sig :=
  ⟨fun k => (Proc.scVector c s).devRef (⟨.vmem, k, rfl⟩ : Ref sig .scVector), fun a b h => by
    have h' := Proc.devRef_injective _ h
    exact eq_of_heq (Ref.mk.inj h').2⟩

omit [FloatOps F] in
/-- The semaphores of the kernel are among the tile's own, all of them at zero: they and the rest. -/
theorem ownSems0_tile : ∃ R : sProp 𝕄, (ownSems0 (thr d c s) : sProp 𝕄)
    = iprop(tileSems (F := F) d (coordsV c s) cc0_scratch12 cc0_scratch13 cc0_scratch14 cc0_scratch15 cc0_scratch16 cc0_scratch17 cc0_scratch18 cc0_scratch19 cc0_scratch20 cc0_scratch21 cc0_scoped0 cc0_scoped1 ∗ R) := by
  refine ⟨bigSep (ownCells (thr d c s) \ Finset.univ.map (semE (thr d c s))) (fun g => semVal g 0), ?_⟩
  unfold SparseCore.Cfg.ownSems0 tileSems
  rw [bigSep_twelve_of (ownCells (thr d c s)) (semE (thr d c s)) (fun k => mem_ownCells.mpr ⟨rfl, rfl⟩), bigSep_twelve]
  rfl

omit [FloatOps F] in
/-- The buffers of the kernel are among the tile's own, each at some contents: they and the rest. -/
theorem ownBufs_tile : ∃ R : sProp 𝕄, (ownBufs (thr d c s) : sProp 𝕄)
    = iprop(tileBufs (F := F) d (coordsV c s) lB xB0 xB1 xB2 xB3 xB4 gB0 gB1 gB2 gB3 gB4 aB ∗ R) := by
  refine ⟨bigSep (ownRefs (thr d c s).2 \ Finset.univ.map (bufE (cV c) (jV s)))
    (fun b => iprop(∃ f, ((d, b) : Loc nD τ sig) ↦{fullShare} f)), ?_⟩
  unfold SparseCore.Cfg.ownBufs tileBufs
  rw [bigSep_twelve_of (ownRefs (thr d c s).2) (bufE (cV c) (jV s)) (fun k => SparseCore.Cfg.mem_ownRefs_of_owner rfl), bigSep_twelve]
  rfl

end Tile

end Cert.Proof

end
-- ==== Proof.Task.lean ====
/-
  One tile's task as the launch asks for it: from the tile's shares of the arguments and its row of the partial sums, the
  row written with the tile's lanes.
-/
module

public import proofs.«01_k».proof.Proof.Launch

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S16384x2048 EltTy.f32)
local notation "iV" => (Memref.whole Cert.KernelIdeal.main_arg1_scv : Memref Cert.KernelIdeal.sig Kind.scVector Space.hbm Cert.KernelIdeal.S16384 EltTy.i32)
local notation "tV" => (Memref.whole Cert.KernelIdeal.main_arg2_scv : Memref Cert.KernelIdeal.sig Kind.scVector Space.hbm Cert.KernelIdeal.S2048x1024 EltTy.i32)
local notation "oV" => (Memref.whole Cert.KernelIdeal.main_v0_scv : Memref Cert.KernelIdeal.sig Kind.scVector Space.hbm Cert.KernelIdeal.S32x16 EltTy.f32)
local notation "lB" => (Memref.whole Cert.KernelIdeal.cc0_scratch0 : Memref Cert.KernelIdeal.sig Kind.scVector Space.vmem Cert.KernelIdeal.S512 EltTy.i32)
local notation "xB0" => (Memref.whole Cert.KernelIdeal.cc0_scratch1 : Memref Cert.KernelIdeal.sig Kind.scVector Space.vmem Cert.KernelIdeal.S8x2048 EltTy.f32)
local notation "xB1" => (Memref.whole Cert.KernelIdeal.cc0_scratch2 : Memref Cert.KernelIdeal.sig Kind.scVector Space.vmem Cert.KernelIdeal.S8x2048 EltTy.f32)
local notation "xB2" => (Memref.whole Cert.KernelIdeal.cc0_scratch3 : Memref Cert.KernelIdeal.sig Kind.scVector Space.vmem Cert.KernelIdeal.S8x2048 EltTy.f32)
local notation "xB3" => (Memref.whole Cert.KernelIdeal.cc0_scratch4 : Memref Cert.KernelIdeal.sig Kind.scVector Space.vmem Cert.KernelIdeal.S8x2048 EltTy.f32)
local notation "xB4" => (Memref.whole Cert.KernelIdeal.cc0_scratch5 : Memref Cert.KernelIdeal.sig Kind.scVector Space.vmem Cert.KernelIdeal.S8x2048 EltTy.f32)
local notation "gB0" => (Memref.whole Cert.KernelIdeal.cc0_scratch6 : Memref Cert.KernelIdeal.sig Kind.scVector Space.vmem Cert.KernelIdeal.S8x1024 EltTy.i32)
local notation "gB1" => (Memref.whole Cert.KernelIdeal.cc0_scratch7 : Memref Cert.KernelIdeal.sig Kind.scVector Space.vmem Cert.KernelIdeal.S8x1024 EltTy.i32)
local notation "gB2" => (Memref.whole Cert.KernelIdeal.cc0_scratch8 : Memref Cert.KernelIdeal.sig Kind.scVector Space.vmem Cert.KernelIdeal.S8x1024 EltTy.i32)
local notation "gB3" => (Memref.whole Cert.KernelIdeal.cc0_scratch9 : Memref Cert.KernelIdeal.sig Kind.scVector Space.vmem Cert.KernelIdeal.S8x1024 EltTy.i32)
local notation "gB4" => (Memref.whole Cert.KernelIdeal.cc0_scratch10 : Memref Cert.KernelIdeal.sig Kind.scVector Space.vmem Cert.KernelIdeal.S8x1024 EltTy.i32)
local notation "aB" => (Memref.whole Cert.KernelIdeal.cc0_scratch11 : Memref Cert.KernelIdeal.sig Kind.scVector Space.vmem Cert.KernelIdeal.S16 EltTy.f32)

/-! ## The row of a tile -/

/-- Entry `l` of a row read as sixteen lanes is column `l` of the row. -/
theorem reshape_lane (h : S16.numel = S1x16.numel) (x : S16.Idx) :
    Shape.reshapeEquiv h x = ValueIdx.ix2 (n0 := 1) (n1 := 16) 0 (x 0) := by
  rw [Shape.reshapeEquiv_cons_one]
  funext a
  match a with
  | 0 => rfl
  | 1 => rfl

/-- The tile's row of the partial sums is row `2s + c`. -/
theorem oRow_emb (c : Fin 2) (s : Fin 16) (x : S16.Idx) :
    (oRow oV (coordsV c s)).view.emb x = ValueIdx.ix2 (n0 := 32) (n1 := 16) ⟨2 * s.val + c.val, by omega⟩ (x 0) := by
  show (Rect.unit (s := S32x16) (k0_off47 (coordsV c s)) S1x16.size (k0_off47_inb (coordsV c s))).emb
    (Shape.reshapeEquiv _ x) = _
  rw [reshape_lane]
  have h0 := congrFun (k0_off47_eq (coordsV c s)) 0
  have h1 := congrFun (k0_off47_eq (coordsV c s)) 1
  funext a
  apply Fin.ext
  match a with
  | 0 =>
    show k0_off47 (coordsV c s) 0 + 1 * 0 = 2 * s.val + c.val
    rw [h0]; rfl
  | 1 =>
    show k0_off47 (coordsV c s) 1 + 1 * (x 0).val = (x 0).val
    rw [h1]; show 0 + 1 * (x 0).val = _; omega

/-- The grid point read back from the row's number. -/
theorem coords_row (c : Fin 2) (s : Fin 16) (h0 : (2 * s.val + c.val) % 2 < grid0.bound 0) (h1 : (2 * s.val + c.val) / 2 < grid0.bound 1) :
    coordsV ⟨(2 * s.val + c.val) % 2, h0⟩ ⟨(2 * s.val + c.val) / 2, h1⟩ = coordsV c s := by
  have e0 : (⟨(2 * s.val + c.val) % 2, h0⟩ : Fin (grid0.bound 0)) = c := Fin.ext (by show (2 * s.val + c.val) % 2 = c.val; omega)
  have e1 : (⟨(2 * s.val + c.val) / 2, h1⟩ : Fin (grid0.bound 1)) = s := Fin.ext (by show (2 * s.val + c.val) / 2 = s.val; omega)
  rw [e0, e1]

variable [FloatOps F] (m : (ℓ : Loc nD τ sig) → Buf (Elt F) ℓ)

/-- The partial sums at the tile's row are the tile's lanes. -/
theorem partials_row (vX : S16384x2048.Idx → Elt F .f32) (vI : S16384.Idx → Elt F .i32) (vT : S2048x1024.Idx → Elt F .i32)
    (c : Fin 2) (s : Fin 16) (x : S16.Idx) :
    partials vX vI vT ((oRow oV (coordsV c s)).view.emb x) = tileOut vX vI vT (coordsV c s) x := by
  rw [oRow_emb]
  unfold partials
  rw [show (ValueIdx.ix1 ((ValueIdx.ix2 (n0 := 32) (n1 := 16) ⟨2 * s.val + c.val, by omega⟩ (x 0)) 1) : S16.Idx) = x from
    (ValueIdx.eq_ix1 x).symm]
  exact congrArg (fun i => tileOut vX vI vT i x) (coords_row c s _ _)

/-- The row written with the tile's lanes is the row of the partial sums. -/
theorem rowPts_written (d : Dev nD) (c : Fin 2) (s : Fin 16) (f : Buf (Elt F) (oLoc d)) :
    (rowPts (F := F) d c s ((oRow oV (coordsV c s)).view.write (Elt F) f
        (tileOut (m (xLoc d)) (m (iLoc d)) (m (tLoc d)) (coordsV c s)) Finset.univ) : sProp 𝕄)
      = rowPts d c s (outOf m d) := by
  refine pointsTo_congr fun y hy => ?_
  obtain ⟨x, -, rfl⟩ := Finset.mem_map.mp hy
  rw [View.write_emb_of_mem _ _ (Finset.mem_univ x)]
  exact ((cast_eq _ _).trans (partials_row (m (xLoc d)) (m (iLoc d)) (m (tLoc d)) c s x).symm)

/-! ## The task -/

section Tile

variable (d : Dev nD) (c : Fin 2) (s : Fin 16)

/-- The task of SparseCore `c`'s tile `s`: its row from the launch memory's contents to the partial sums, its shares
    and its own buffers and semaphores given back. -/
theorem tile_body (hpre : PreOK m) (O : CellTallies nD τ sig (HIx 1)) (W : Waits sig (HIx 1)) (hO : ∀ g, O g none = 0) :
    iprop(levAts (K (F := F)).L (K (F := F)).lev ∗ emp ∗ tileRes m d c s (m (oLoc d))
        ∗ scopedBufs (thr d c s) ∗ scopedSems0 (thr d c s) ∗ owes (thr d c s) O W)
      ⊢ wp frame (wpE (defs₀ (F := F)) 𝒱₀ (thr d c s) none) Set.univ
          (cc0_body (coordsV c s) xV (Memref.isWhole_whole _) iV (Memref.isWhole_whole _) tV (Memref.isWhole_whole _) oV (Memref.isWhole_whole _) lB (Memref.isWhole_whole _) xB0 (Memref.isWhole_whole _) xB1 (Memref.isWhole_whole _) xB2 (Memref.isWhole_whole _) xB3 (Memref.isWhole_whole _) xB4 (Memref.isWhole_whole _) gB0 (Memref.isWhole_whole _) gB1 (Memref.isWhole_whole _) gB2 (Memref.isWhole_whole _) gB3 (Memref.isWhole_whole _) gB4 (Memref.isWhole_whole _) aB (Memref.isWhole_whole _) cc0_scratch12 cc0_scratch13 cc0_scratch14 cc0_scratch15 cc0_scratch16 cc0_scratch17 cc0_scratch18 cc0_scratch19 cc0_scratch20 cc0_scratch21 cc0_scoped0 cc0_scoped1)
          fun _ => iprop(tileRes m d c s (outOf m d) ∗ scopedBufs (thr d c s) ∗ scopedSems0 (thr d c s)
            ∗ ∃ W', ⌜∀ p ∈ W', p ∈ W ∨ p.2 = none⌝ ∗ owes (thr d c s) O W') := by
  obtain ⟨RS, hRS⟩ := ownSems0_tile (F := F) d c s
  obtain ⟨RB, hRB⟩ := ownBufs_tile (F := F) d c s
  rw [(K (F := F)).scopedBufs_V launchFacts d (cV c) (jV s), SparseCore.Cfg.scopedSems0_V (Val := Elt F) d (cV c) (jV s)]
  rw [show (ownSems0 (V d (cV c) (jV s)) : sProp 𝕄) = _ from hRS, show (ownBufs (V d (cV c) (jV s)) : sProp 𝕄) = _ from hRB]
  rw [cc0_body_eq]
  iintro ⟨#Hlv, -, ⟨⟨HX, HI, HT⟩, HR⟩, ⟨HB, HBr⟩, ⟨HS, HSr⟩, HO⟩
  ihave #Hmw := (show levAts (K (F := F)).L (K (F := F)).lev ⊢ Transfers.MayWaits (thr d c s) (default : HIx 1) O from
    (K (F := F)).mayWaits_none (thr := thr d c s) hO) $$ Hlv
  iapply (wp_tile (F := F) (countersEmb (nD := nD) (τ := τ) (sig := sig)) (default : HIx 1) 𝒱₀ none d (coordsV c s)
    xV iV tV (Memref.isWhole_whole _) oV lB (Memref.isWhole_whole _) xB0 (Memref.isWhole_whole _) xB1 (Memref.isWhole_whole _) xB2 (Memref.isWhole_whole _) xB3 (Memref.isWhole_whole _) xB4 (Memref.isWhole_whole _) gB0 (Memref.isWhole_whole _) gB1 (Memref.isWhole_whole _) gB2 (Memref.isWhole_whole _) gB3 (Memref.isWhole_whole _) gB4 (Memref.isWhole_whole _) aB (Memref.isWhole_whole _)
    cc0_scratch12 cc0_scratch13 cc0_scratch14 cc0_scratch15 cc0_scratch16 cc0_scratch17 cc0_scratch18 cc0_scratch19 cc0_scratch20 cc0_scratch21 cc0_scoped0 cc0_scoped1 (tileShare c s) (tileShare c s) (tileShare c s)
    (m (xLoc d)) (m (iLoc d)) (m (tLoc d)) O W (m (oLoc d)) (fun y => hpre d y)) $$ [HX HI HT HR HB HS HO]
  · isplitl [HX HI HT HR]
    · isplitl [HX]; · iexact HX
      isplitl [HI]; · iexact HI
      isplitl [HT]; · iexact HT
      iexact HR
    isplitl [HB]; · iexact HB
    isplitl [HS]; · iexact HS
    isplitl [HO]
    · unfold owesAny
      iexists W
      isplitr
      · ipureintro; exact fun p hp => Or.inl hp
      · iexact HO
    iexact Hmw
  iintro ⟨⟨HX, HI, HT, HR⟩, HB, HS, HO⟩
  ihave HR := (show ((oRow oV (coordsV c s)).view.loc (tileT d (coordsV c s))
      ↦[(oRow oV (coordsV c s)).view.set]{fullShare} (oRow oV (coordsV c s)).view.write (Elt F) (m (oLoc d))
        (tileOut ((xV).view.read (Elt F) (m (xLoc d))) ((iV).view.read (Elt F) (m (iLoc d))) ((tV).view.read (Elt F) (m (tLoc d)))
          (coordsV c s)) Finset.univ : sProp 𝕄) ⊢ rowPts d c s (outOf m d)
    from Entails.of_eq (rowPts_written (F := F) m d c s (m (oLoc d)))) $$ HR
  isplitl [HX HI HT HR]
  · isplitl [HX HI HT]
    · isplitl [HX]; · iexact HX
      isplitl [HI]; · iexact HI
      iexact HT
    iexact HR
  isplitl [HB HBr]
  · isplitl [HB]; · iexact HB
    iexact HBr
  isplitl [HS HSr]
  · isplitl [HS]; · iexact HS
    iexact HSr
  unfold owesAny
  iexact HO

/-! ## The obligation -/

theorem defs₀_vector (c' : Fin τ.nSC) (s' : Fin τ.nSub) :
    defs₀ (F := F) (.scVector c' s') 0 ()
      = SparseCore.onTile hcore0 hsub0 (fun c s => cc0_body (coordsV c s) xV (Memref.isWhole_whole _) iV (Memref.isWhole_whole _) tV (Memref.isWhole_whole _) oV (Memref.isWhole_whole _) lB (Memref.isWhole_whole _) xB0 (Memref.isWhole_whole _) xB1 (Memref.isWhole_whole _) xB2 (Memref.isWhole_whole _) xB3 (Memref.isWhole_whole _) xB4 (Memref.isWhole_whole _) gB0 (Memref.isWhole_whole _) gB1 (Memref.isWhole_whole _) gB2 (Memref.isWhole_whole _) gB3 (Memref.isWhole_whole _) gB4 (Memref.isWhole_whole _) aB (Memref.isWhole_whole _) cc0_scratch12 cc0_scratch13 cc0_scratch14 cc0_scratch15 cc0_scratch16 cc0_scratch17 cc0_scratch18 cc0_scratch19 cc0_scratch20 cc0_scratch21 cc0_scoped0 cc0_scoped1) ⟨⟩ c' s' := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the launch theorem asks of the tiles. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d ⟨_, hci.1⟩ ⟨_, hci.2⟩ hpre O W hO).trans (wp_mono frame _ _ fun _ => obl_post)

end Tile

end Cert.Proof

end
-- ==== Proof.Program.lean ====
/-
  The whole program: how the call's operands split over the SparseCores and their tiles and join again, @main on the
  TensorCore (the call, then the sum of the partial sums divided by the batch size), and the program's run.
-/
module

public import proofs.«01_k».proof.Proof.Task

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ
local notation "oV" => (Memref.whole Cert.KernelIdeal.main_v0_scv : Memref Cert.KernelIdeal.sig Kind.scVector Space.hbm Cert.KernelIdeal.S32x16 EltTy.f32)

variable (m : (ℓ : Loc nD τ sig) → Buf (Elt F) ℓ) (ρ : Dev nD → PrngReg)

/-! ## The rows of the partial sums: disjoint, and together the array -/

/-- The tiles' rows do not overlap. -/
theorem rows_disjoint : ∀ p ∈ (Finset.univ : Finset (Fin 2 × Fin 16)), ∀ p' ∈ (Finset.univ : Finset (Fin 2 × Fin 16)), p ≠ p' →
    Disjoint (rowSet p.1 p.2) (rowSet p'.1 p'.2) := by
  rintro ⟨c, s⟩ - ⟨c', s'⟩ - h
  refine Finset.disjoint_left.mpr fun y hy hy' => h ?_
  obtain ⟨x, -, e⟩ := Finset.mem_map.mp hy
  obtain ⟨x', -, e'⟩ := Finset.mem_map.mp hy'
  rw [oRow_emb] at e e'
  have h0 : 2 * s.val + c.val = 2 * s'.val + c'.val := by
    have := congrArg Fin.val ((congrFun e 0).trans (congrFun e' 0).symm)
    exact this
  have := c.isLt
  have := c'.isLt
  exact Prod.ext (Fin.ext (by show c.val = c'.val; omega)) (Fin.ext (by show s.val = s'.val; omega))

/-- Row `2 s + c` lies in tile `s` of core `c`'s row. -/
theorem mem_rowSet (c : Fin 2) (s : Fin 16) (y : S32x16.Idx) (h : 2 * s.val + c.val = (y 0).val) : y ∈ rowSet c s := by
  have e : (oRow oV (coordsV c s)).view.emb (ValueIdx.ix1 (y 1)) = y := by
    rw [oRow_emb]
    refine Eq.trans ?_ (ValueIdx.eq_ix2 y).symm
    exact congrArg (fun a : Fin 32 => ValueIdx.ix2 (n0 := 32) (n1 := 16) a (y 1)) (Fin.ext h)
  exact Finset.mem_map.mpr ⟨ValueIdx.ix1 (y 1), Finset.mem_univ _, e⟩

/-- Every element of the array lies in some tile's row. -/
theorem rows_cover : (Finset.univ : Finset (Fin 2 × Fin 16)).biUnion (fun p => rowSet p.1 p.2) = Finset.univ := by
  refine Finset.eq_univ_of_forall fun y => ?_
  have hy : (y 0).val < 32 := (y 0).isLt
  generalize hn : (y 0).val = n at hy
  have hc : n % 2 < 2 := Nat.mod_lt _ (by decide)
  have hs : n / 2 < 16 := by omega
  have hm : y ∈ rowSet ⟨n % 2, hc⟩ ⟨n / 2, hs⟩ := mem_rowSet _ _ y (by rw [hn]; show 2 * (n / 2) + n % 2 = n; omega)
  exact Finset.mem_biUnion.mpr ⟨(⟨n % 2, hc⟩, ⟨n / 2, hs⟩), Finset.mem_univ _, hm⟩

/-- The array of partial sums is its rows, by SparseCore and tile. -/
theorem out_rows (d : Dev nD) (f : Buf (Elt F) (oLoc d)) :
    (oLoc d ↦{fullShare} f : sProp 𝕄)
      = bigSep Finset.univ fun c : Fin 2 => bigSep Finset.univ fun s : Fin 16 => rowPts d c s f := by
  rw [show (oLoc d ↦{fullShare} f : sProp 𝕄) = oLoc d ↦[(Finset.univ : Finset (Fin 2 × Fin 16)).biUnion (fun p => rowSet p.1 p.2)]{fullShare} f
    from by rw [rows_cover]]
  rw [pointsTo_biUnion Finset.univ (ℓ := oLoc d) (fun p : Fin 2 × Fin 16 => rowSet p.1 p.2) rows_disjoint, bigSep_univ_prod]

variable [FloatOps F]

/-- What the call takes is what its SparseCores take. -/
theorem call_res (d : Dev nD) (f : Buf (Elt F) (oLoc d)) :
    (iprop((xPts m d fullShare ∗ iPts m d fullShare ∗ tPts m d fullShare) ∗ (oLoc d ↦{fullShare} f)) : sProp 𝕄)
      = bigSep Finset.univ fun c : Fin 2 => coreRes m d c f := by
  rw [out_rows d f]
  unfold xPts iPts tPts
  rw [pointsTo_piecesOf (ℓ := xLoc d) Finset.univ (m (xLoc d)) (o := 2) (by decide) fullShare,
    pointsTo_piecesOf (ℓ := iLoc d) Finset.univ (m (iLoc d)) (o := 2) (by decide) fullShare,
    pointsTo_piecesOf (ℓ := tLoc d) Finset.univ (m (tLoc d)) (o := 2) (by decide) fullShare]
  rw [bigSep_sep', bigSep_sep', bigSep_sep']

/-- What a SparseCore takes is what its tiles take. -/
theorem core_res (d : Dev nD) (c : Fin 2) (f : Buf (Elt F) (oLoc d)) :
    (coreRes m d c f : sProp 𝕄) = bigSep Finset.univ fun s : Fin 16 => tileRes m d c s f := by
  unfold coreRes xPts iPts tPts
  rw [pointsTo_piecesOf (ℓ := xLoc d) Finset.univ (m (xLoc d)) (o := 16) (by decide) (coreShare c),
    pointsTo_piecesOf (ℓ := iLoc d) Finset.univ (m (iLoc d)) (o := 16) (by decide) (coreShare c),
    pointsTo_piecesOf (ℓ := tLoc d) Finset.univ (m (tLoc d)) (o := 16) (by decide) (coreShare c)]
  rw [bigSep_sep', bigSep_sep', bigSep_sep']

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's operands split over its tiles and join again. -/
theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (outOf m d))
          -∗ coreRes m d (Fin.cast nCore_zero c) (outOf m d)))
  rw [bigSep_tiles (F := F) (fun s => tileRes m d (Fin.cast nCore_zero c) s (m (oLoc d))),
    bigSep_tiles (F := F) (fun s => tileRes m d (Fin.cast nCore_zero c) s (outOf m d)), ← core_res, ← core_res]
  iintro H; imodintro
  isplitl [H]; · iexact H
  iintro H; iexact H

theorem st0_eq (d : Dev nD) : (bigSep Finset.univ fun c : Fin ((K (F := F)).nCore 0) => (P m).st 0 d c)
    = iprop((xPts m d fullShare ∗ iPts m d fullShare ∗ tPts m d fullShare) ∗ (oLoc d ↦{fullShare} m (oLoc d))) :=
  (bigSep_cores (F := F) (fun c => coreRes m d c (m (oLoc d)))).trans (call_res m d _).symm
theorem dn0_eq (d : Dev nD) : (bigSep Finset.univ fun c : Fin ((K (F := F)).nCore 0) => (P m).dn 0 d c)
    = iprop((xPts m d fullShare ∗ iPts m d fullShare ∗ tPts m d fullShare) ∗ (oLoc d ↦{fullShare} outOf m d)) :=
  (bigSep_cores (F := F) (fun c => coreRes m d c (outOf m d))).trans (call_res m d _).symm

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg0 : Ref sig .tc)
abbrev i' : DevRef τ sig := Proc.devRef .tc (main_arg1 : Ref sig .tc)
abbrev t' : DevRef τ sig := Proc.devRef .tc (main_arg2 : Ref sig .tc)
abbrev o' : DevRef τ sig := Proc.devRef .tc (main_v0 : Ref sig .tc)
abbrev z' : DevRef τ sig := Proc.devRef .tc (main_cst : Ref sig .tc)
abbrev s' : DevRef τ sig := Proc.devRef .tc (main_v1 : Ref sig .tc)
abbrev k' : DevRef τ sig := Proc.devRef .tc (main_cst_0 : Ref sig .tc)
abbrev r' : DevRef τ sig := Proc.devRef .tc (main_v2 : Ref sig .tc)

abbrev opZero : HloOp τ sig (Elt F) := StableHlo.nullary main_cst (constant S_ .f32 0x00000000#32)
abbrev opSum : HloOp τ sig (Elt F) := StableHlo.binary main_v0 main_cst main_v1 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opBatch : HloOp τ sig (Elt F) := StableHlo.nullary main_cst_0 (constant S_ .f32 0x46800000#32)
abbrev opDiv : HloOp τ sig (Elt F) := StableHlo.binary main_v1 main_cst_0 main_v2 (Host.divf : (⟨S_, .f32⟩ : BufTy).Contents (Elt F) → (⟨S_, .f32⟩ : BufTy).Contents (Elt F) → (⟨S_, .f32⟩ : BufTy).Contents (Elt F))

/-- The TensorCore's arrays: the three arguments, the partial sums, and the host values. -/
abbrev S8h : Finset (DevRef τ sig) := {x', i', t', o', z', s', k', r'}

abbrev rLoc (d : Dev nD) : Loc nD τ sig := (SparseCore.T d).loc main_v2

/-- The result: the sum of the partial sums over the batch size. -/
def resultOf (g : S32x16.Idx → Elt F .f32) : S_.Idx → Elt F .f32 :=
  Host.divf (Host.reduceAdd g (constant S_ .f32 0x00000000#32) reducesTo_S32x16_S_d0_1 h_S_) (constant S_ .f32 0x46800000#32)

omit [FloatOps F] in
theorem held_S8h (d : Dev nD) (W : Valuation τ sig (Elt F)) :
    (held (T d) S8h W : sProp 𝕄)
      = iprop((xLoc d ↦{fullShare} W x') ∗ (iLoc d ↦{fullShare} W i') ∗ (tLoc d ↦{fullShare} W t') ∗ (oLoc d ↦{fullShare} W o')
          ∗ ((SparseCore.T d).loc main_cst ↦{fullShare} W z') ∗ ((SparseCore.T d).loc main_v1 ↦{fullShare} W s')
          ∗ ((SparseCore.T d).loc main_cst_0 ↦{fullShare} W k') ∗ (rLoc d ↦{fullShare} W r')) := by
  unfold held S8h
  iterate 7 rw [SparseCore.bigSep_insert' (by decide)]
  rw [bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (iLoc d ↦{fullShare} W main_arg1) ∗ (tLoc d ↦{fullShare} W main_arg2) ∗ (oLoc d ↦{fullShare} W main_v0)
          ∗ ((SparseCore.T d).loc main_cst ↦{fullShare} W main_cst) ∗ ((SparseCore.T d).loc main_v1 ↦{fullShare} W main_v1)
          ∗ ((SparseCore.T d).loc main_cst_0 ↦{fullShare} W main_cst_0) ∗ (rLoc d ↦{fullShare} W main_v2)) := by
  unfold unscopedBufs
  rw [show (Finset.univ.filter fun b : Ref sig .tc => ¬ b.isScoped) = {main_arg0, main_arg1, main_arg2, main_v0, main_cst, main_v1, main_cst_0, main_v2} by decide]
  iterate 7 rw [SparseCore.bigSep_insert' (by decide)]
  rw [bigSep_singleton]

/-- The arrays after the call: the launch memory's, with the partial sums in place. -/
def V1 (d : Dev nD) : Valuation τ sig (Elt F) := Function.update (fun b => m (d, b)) o' (outOf m d)
/-- The arrays at the end: the four host operations over that. -/
def V5 (d : Dev nD) : Valuation τ sig (Elt F) :=
  (opDiv (F := F)).result ((opBatch (F := F)).result ((opSum (F := F)).result ((opZero (F := F)).result (V1 m d))))

theorem V1_o (d : Dev nD) : V1 m d o' = outOf m d := Function.update_self _ _ _
theorem V1_ne (d : Dev nD) (b : DevRef τ sig) (h : b ≠ o') : V1 m d b = m (d, b) := Function.update_of_ne h _ _

/-- The host operations write none of the arguments. -/
theorem V5_ne (d : Dev nD) (b : DevRef τ sig) (h : b ∉ ({z', s', k', r'} : Finset (DevRef τ sig))) : V5 m d b = V1 m d b := by
  simp only [Finset.mem_insert, Finset.mem_singleton, not_or] at h
  unfold V5
  rw [(opDiv (F := F)).result_of_not_mem _ (show b ∉ ({r'} : Finset (DevRef τ sig)) from fun e => h.2.2.2 (Finset.mem_singleton.mp e)),
    (opBatch (F := F)).result_of_not_mem _ (show b ∉ ({k'} : Finset (DevRef τ sig)) from fun e => h.2.2.1 (Finset.mem_singleton.mp e)),
    (opSum (F := F)).result_of_not_mem _ (show b ∉ ({s'} : Finset (DevRef τ sig)) from fun e => h.2.1 (Finset.mem_singleton.mp e)),
    (opZero (F := F)).result_of_not_mem _ (show b ∉ ({z'} : Finset (DevRef τ sig)) from fun e => h.1 (Finset.mem_singleton.mp e))]

/-- The result's array at the end. -/
theorem V5_r (d : Dev nD) : V5 m d r' = resultOf (outOf m d) := by
  unfold V5
  refine (StableHlo.binary_result _ _ _ _ _ _ _ _).trans ?_
  rw [StableHlo.nullary_result main_cst_0]
  rw [(opBatch (F := F)).result_of_not_mem _ (show s' ∉ ({k'} : Finset (DevRef τ sig)) by decide)]
  rw [StableHlo.binary_result main_v0 main_cst main_v1]
  rw [StableHlo.nullary_result main_cst]
  rw [(opZero (F := F)).result_of_not_mem _ (show o' ∉ ({z'} : Finset (DevRef τ sig)) by decide)]
  rw [V1_o]
  rfl

theorem hZero : (opZero (F := F)).bufs ⊆ S8h := show ({z'} : Finset (DevRef τ sig)) ⊆ S8h by decide
theorem hSum : (opSum (F := F)).bufs ⊆ S8h := show ({o', z', s'} : Finset (DevRef τ sig)) ⊆ S8h by decide
theorem hBatch : (opBatch (F := F)).bufs ⊆ S8h := show ({k'} : Finset (DevRef τ sig)) ⊆ S8h by decide
theorem hDiv : (opDiv (F := F)).bufs ⊆ S8h := show ({s', k', r'} : Finset (DevRef τ sig)) ⊆ S8h by decide

/-- What @main leaves: the arguments at their launch contents, the result at its value. -/
abbrev FIN (d : Dev nD) : sProp 𝕄 :=
  iprop(xPts m d fullShare ∗ iPts m d fullShare ∗ tPts m d fullShare ∗ (rLoc d ↦{fullShare} resultOf (outOf m d)))

/-- @main on device `d`'s TensorCore: the call, then the four host operations over the arrays held whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Ht, Ho, Hz, Hs, Hk, Hr⟩, Hts, -⟩, -⟩
  iapply ((K (F := F)).wp_run (D (F := F)) 𝒱 (EH := EH) (P := P m) κ d 0) $$ [Hst Hx Hi Ht Ho Hb Hz Hs Hk Hr Hts]
  isplitr; · iexact Hctx
  isplitl [Hst]; · iexact Hst
  isplitl [Hx Hi Ht Ho]
  · rw [st0_eq]
    isplitr [Ho]
    · isplitl [Hx]; · iexact Hx
      isplitl [Hi]; · iexact Hi
      iexact Ht
    iexact Ho
  iintro ⟨Hst, Hdn⟩
  ihave Hdn' := (Entails.of_eq (dn0_eq m d)) $$ Hdn
  icases Hdn' with ⟨⟨Hx, Hi, Ht⟩, Ho⟩
  iapply (wp_hlo_within 𝒱 (SparseCore.T d) none Set.univ (op := opZero) (S := S8h) hZero (V := V1 m d)) $$ [Hb Hx Hi Ht Ho Hz Hs Hk Hr]
  · isplitl [Hb]; · iexact Hb
    rw [held_S8h, V1_o, V1_ne m d x' (by decide), V1_ne m d i' (by decide), V1_ne m d t' (by decide), V1_ne m d z' (by decide),
      V1_ne m d s' (by decide), V1_ne m d k' (by decide), V1_ne m d r' (by decide)]
    isplitl [Hx]; · iexact Hx
    isplitl [Hi]; · iexact Hi
    isplitl [Ht]; · iexact Ht
    isplitl [Ho]; · iexact Ho
    isplitl [Hz]; · iexact Hz
    isplitl [Hs]; · iexact Hs
    isplitl [Hk]; · iexact Hk
    iexact Hr
  iintro ⟨Hb, Hheld⟩
  rw [wp_ret]; imodintro
  iapply (wp_hlo_within 𝒱 (SparseCore.T d) none Set.univ (op := opSum) (S := S8h) hSum (V := (opZero (F := F)).result (V1 m d))) $$ [Hb Hheld]
  · isplitl [Hb] <;> iassumption
  iintro ⟨Hb, Hheld⟩
  rw [wp_ret]; imodintro
  iapply (wp_hlo_within 𝒱 (SparseCore.T d) none Set.univ (op := opBatch) (S := S8h) hBatch (V := (opSum (F := F)).result ((opZero (F := F)).result (V1 m d)))) $$ [Hb Hheld]
  · isplitl [Hb] <;> iassumption
  iintro ⟨Hb, Hheld⟩
  rw [wp_ret]; imodintro
  iapply (wp_hlo_within 𝒱 (SparseCore.T d) none Set.univ (op := opDiv) (S := S8h) hDiv (V := (opBatch (F := F)).result ((opSum (F := F)).result ((opZero (F := F)).result (V1 m d))))) $$ [Hb Hheld]
  · isplitl [Hb] <;> iassumption
  iintro ⟨Hb, Hheld⟩
  rw [wp_ret]; imodintro
  ihave Hh := (show (held (T d) S8h ((opDiv (F := F)).result ((opBatch (F := F)).result ((opSum (F := F)).result ((opZero (F := F)).result (V1 m d))))) : sProp 𝕄) ⊢ _ from Entails.of_eq (held_S8h (F := F) d (V5 m d))) $$ Hheld
  rw [V5_ne m d x' (by decide), V5_ne m d i' (by decide), V5_ne m d t' (by decide), V5_r,
    V1_ne m d x' (by decide), V1_ne m d i' (by decide), V1_ne m d t' (by decide)]
  icases Hh with ⟨Hx, Hi, Ht, -, -, -, -, Hr⟩
  imodintro
  isplitl [Hst]; · iexact Hst
  isplitr [Hb Hts]
  · isplitl [Hx]; · iexact Hx
    isplitl [Hi]; · iexact Hi
    isplitl [Ht]; · iexact Ht
    iexact Hr
  isplitl [Hb] <;> iassumption

/-! ## The program's run -/

/-- What is read of device `d`'s final state. -/
def fq (d : Dev nD) (s' : Phys nD τ sig (Elt F)) : Prop :=
  s'.mem.mem (rLoc d) = resultOf (outOf m d) ∧ s'.mem.mem (xLoc d) = m (xLoc d) ∧ s'.mem.mem (iLoc d) = m (iLoc d)
    ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Hi, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := resultOf (outOf m d))) $$ [HSI Hr]
  · isplitl [HSI] <;> iassumption
  icases H with %hr
  ipureintro
  exact ⟨funext fun i => hr i (Finset.mem_univ i), funext fun i => hx i (Finset.mem_univ i), funext fun i => hi i (Finset.mem_univ i),
    funext fun i => ht i (Finset.mem_univ i)⟩

/-- What the run ends in: the result at its value, the arguments unchanged, every semaphore at zero. -/
def QC : PUnit × MemSt nD τ sig (Elt F) → Prop := fun r =>
  (∀ c : Dev nD, r.2.mem (rLoc c) = resultOf (outOf m c) ∧ r.2.mem (xLoc c) = m (xLoc c) ∧ r.2.mem (iLoc c) = m (iLoc c)
    ∧ r.2.mem (tLoc c) = m (tLoc c)) ∧ r.2.sem = fun _ => 0

/-- THE RUN, at any reading of the floats: every weakly fair execution ends, nothing faulting, in `QC`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Frames.lean ====
/-
  The three frames: the program at its bit patterns and at its ideal reading, both from the one run of Proof/Program.lean,
  and the reference's, from its generated run.
-/
module

public import proofs.«01_k».proof.Defs
public import proofs.«01_k».proof.Proof.Program
public import proofs.«01_k».proof.Proof.Gen.Kernel
public import proofs.«01_k».proof.Proof.Gen.Pre_in_range
public import proofs.«01_k».proof.Proof.Gen.ReferenceIdeal.Run
public import Idealize.ShloMosaic.PureOps.Reduce
public import Idealize.ShloMosaic.Lib.StableHlo.Predicate

@[expose] public section

set_option maxRecDepth 16384

noncomputable section

namespace Cert.Proof

open Idealize.ShloMosaic Idealize.SL.Sem

instance : Std.Commutative (IntOp.andi (w := 1)) := ⟨fun a b => BitVec.and_comm a b⟩
instance : Std.Associative (IntOp.andi (w := 1)) := ⟨fun a b c => BitVec.and_assoc a b c⟩

/-- Two bits whose conjunction is one are both one. -/
theorem andi_one : ∀ p q : BitVec 1, IntOp.andi p q = 1#1 → p = 1#1 ∧ q = 1#1 := by decide

/-- A conjunction of bits that is one has every bit one. -/
theorem fold_andi_one {ι : Type} [DecidableEq ι] (S : Finset ι) (b : BitVec 1) (f : ι → BitVec 1)
    (h : S.fold IntOp.andi b f = 1#1) : ∀ i ∈ S, f i = 1#1 := by
  induction S using Finset.induction_on with
  | empty => exact fun i hi => absurd hi (Finset.notMem_empty i)
  | insert a S ha ih =>
    rw [Finset.fold_insert ha] at h
    have hk := andi_one _ _ h
    intro i hi
    rcases Finset.mem_insert.mp hi with rfl | hi
    · exact hk.1
    · exact ih hk.2 i hi

/-- A word that is at least zero and below 2048, read signed, is below 2048 read unsigned. -/
theorem word_in_range (v : BitVec 32) (e : IntOp.andi (IntOp.cmpi .sge v 0#32) (IntOp.cmpi .slt v 2048#32) = 1#1) : v.toNat < 2048 := by
  obtain ⟨h0, h1⟩ := andi_one _ _ e
  have h0 : (0#32).sle v = true := (StableHlo.Predicate.ofBool_eq_one_iff _).mp h0
  have h1 : v.slt 2048#32 = true := (StableHlo.Predicate.ofBool_eq_one_iff _).mp h1
  rw [BitVec.sle_eq_decide, decide_eq_true_eq, BitVec.toInt_eq_toNat_cond v] at h0
  rw [BitVec.slt_eq_decide, decide_eq_true_eq, BitVec.toInt_eq_toNat_cond v] at h1
  have hz : (0#32 : BitVec 32).toInt = 0 := by decide
  have hn : (2048#32 : BitVec 32).toInt = 2048 := by decide
  have := v.isLt
  split at h1 <;> split at h0 <;> omega

/-- The precondition says of every index that it is a row of the table. -/
theorem in_range_of_pre {F : FTy → Type} [FloatOps F] [Cert.Pre_in_range.Facts] (x : FVec F Cert.Pre_in_range.S16384x2048 .f32)
    (i : IVec Cert.Pre_in_range.S16384 32) (t : IVec Cert.Pre_in_range.S2048x1024 32)
    (h : Cert.Pre_in_range.fn x i t = fun _ => 1#1) (j : Cert.Pre_in_range.S16384.Idx) : (i j).toNat < 2048 := by
  have e := congrFun h ValueIdx.ix0
  simp only [Cert.Pre_in_range.fn] at e
  rw [Host.reduce_eq_fold] at e
  have e' := fold_andi_one _ _ _ e j (Finset.mem_filter.mpr ⟨Finset.mem_univ j, funext fun a => a.elim0⟩)
  simp only [andi, cmpi, broadcastInDim, constantI] at e'
  exact word_in_range _ e'

theorem ok_kernel (m : (ℓ : Loc Cert.Kernel.nD Cert.Kernel.τ Cert.Kernel.sig) → Buf (Elt Bits) ℓ) (h : Cert.Pre_Kernel m) :
    PreOK (F := Bits) m := fun d j => in_range_of_pre _ _ _ (h d) j

theorem ok_kernelIdeal (m : (ℓ : Loc Cert.KernelIdeal.nD Cert.KernelIdeal.τ Cert.KernelIdeal.sig) → Buf (Elt Ideal) ℓ)
    (h : Cert.Pre_KernelIdeal m) : PreOK (F := Ideal) m := fun d j => in_range_of_pre _ _ _ (h d) j

/-- The program at its bit patterns: it runs, its arguments end unchanged, every semaphore at zero. -/
theorem frame_kernel : Cert.quiescent_Kernel := fun m ρ hpre =>
  (θ_run Cert.KernelIdeal.defs _ _).mono (fun _ h => ⟨fun c => (h.1 c).2, h.2⟩) (run_main (F := Bits) m ρ (ok_kernel m hpre))

/-- The program at its ideal reading: the same. -/
theorem frame_kernelIdeal : Cert.quiescent_KernelIdeal := fun m ρ hpre =>
  (θ_run Cert.KernelIdeal.defs _ _).mono (fun _ h => ⟨fun c => (h.1 c).2, h.2⟩) (run_main (F := Ideal) m ρ (ok_kernelIdeal m hpre))

/-- The reference: the same; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Words.lean ====
/-
  What a packed word holds: two bf16 numbers, the low half's a column of the centers' left half, the high half's one of
  the right half. A bf16 number is the f32 number whose word has the bf16 in its high half and zeros below.
-/
module

public import Idealize.ShloMosaic.PureOps.Ideal

@[expose] public section

noncomputable section

namespace Cert.Proof

open Idealize.ShloMosaic

/-- A pattern of eight exponent bits and seven trailing bits denotes the same number with sixteen zeros appended. -/
theorem ieee_widen (b : BitVec 16) (c : BitVec 32) (hc : c.toNat = b.toNat * 2 ^ 16) : Ideal.ieee 8 23 c = Ideal.ieee 8 7 b := by
  have hs : (c.extractLsb' (8 + 23) 1 == 1#1) = (b.extractLsb' (8 + 7) 1 == 1#1) := by
    have : c.extractLsb' (8 + 23) 1 = b.extractLsb' (8 + 7) 1 := by
      apply BitVec.eq_of_toNat_eq
      simp only [BitVec.extractLsb'_toNat, Nat.shiftRight_eq_div_pow, hc]
      have := b.isLt
      omega
    rw [this]
  have he : (c.extractLsb' 23 8).toNat = (b.extractLsb' 7 8).toNat := by
    simp only [BitVec.extractLsb'_toNat, Nat.shiftRight_eq_div_pow, hc]
    have := b.isLt
    omega
  have hf : (c.extractLsb' 0 23).toNat = (b.extractLsb' 0 7).toNat * 2 ^ 16 := by
    simp only [BitVec.extractLsb'_toNat, Nat.shiftRight_eq_div_pow, hc]
    have := b.isLt
    omega
  unfold Ideal.ieee
  simp only [hs, he, hf]
  generalize (b.extractLsb' 0 7).toNat = fr
  generalize (b.extractLsb' 7 8).toNat = ex
  generalize (b.extractLsb' (8 + 7) 1 == 1#1) = sg
  have h0 : fr * 2 ^ 16 = 0 ↔ fr = 0 := by omega
  by_cases h1 : ex = 2 ^ 8 - 1
  · simp only [h1, if_true, h0]
  · rw [if_neg h1, if_neg h1]
    by_cases h2 : ex = 0
    · rw [if_pos h2, if_pos h2]
      congr 1
      rw [show (1 - (2 ^ (8 - 1) - 1) - ((7 : ℕ) : ℤ) : ℤ) = (1 - (2 ^ (8 - 1) - 1) - ((23 : ℕ) : ℤ)) + 16 by norm_num,
        zpow_add₀ (by norm_num : (2 : ℝ) ≠ 0)]
      push_cast
      norm_num
      ring_nf
    · rw [if_neg h2, if_neg h2]
      congr 1
      rw [show ((ex : ℤ) - (2 ^ (8 - 1) - 1) - ((7 : ℕ) : ℤ) : ℤ) = ((ex : ℤ) - (2 ^ (8 - 1) - 1) - ((23 : ℕ) : ℤ)) + 16 by push_cast; ring,
        zpow_add₀ (by norm_num : (2 : ℝ) ≠ 0)]
      push_cast
      norm_num
      ring_nf

/-- The bf16 number in the low (`h = 0`) or the high (`h = 1`) half of a word. -/
def half (w : BitVec 32) (h : ℕ) : EReal := Ideal.ofBits .bf16 (w.extractLsb' (h * 16) 16)

/-- The word shifted left by sixteen is its low half's number. -/
theorem ofBits_low (w : BitVec 32) : Ideal.ofBits .f32 (w <<< 16) = half w 0 := by
  refine ieee_widen _ _ ?_
  rw [BitVec.toNat_shiftLeft, Nat.shiftLeft_eq]
  simp only [BitVec.extractLsb'_toNat, Nat.shiftRight_eq_div_pow]
  have := w.isLt
  omega

/-- The word with its low half cleared is its high half's number. -/
theorem ofBits_high (w : BitVec 32) : Ideal.ofBits .f32 (w &&& 4294901760#32) = half w 1 := by
  refine ieee_widen _ _ ?_
  have hm : ∀ j : Fin 32, (4294901760#32 : BitVec 32).getLsbD j.val = !decide (j.val < 16) := by decide
  have h : w &&& 4294901760#32 = (w >>> 16) <<< 16 := by
    apply BitVec.eq_of_getLsbD_eq
    intro i hi
    rw [BitVec.getLsbD_and, BitVec.getLsbD_shiftLeft, BitVec.getLsbD_ushiftRight, hm ⟨i, hi⟩]
    by_cases h16 : i < 16
    · simp [h16]
    · rw [show 16 + (i - 16) = i by omega]
      simp [h16, hi]
  rw [h, BitVec.toNat_shiftLeft, BitVec.toNat_ushiftRight, Nat.shiftLeft_eq]
  simp only [BitVec.extractLsb'_toNat, Nat.shiftRight_eq_div_pow]
  have := w.isLt
  omega

end Cert.Proof

end
-- ==== Proof.Sums.lean ====
/-
  What the accumulators hold at the ideal reading: the sum of the squares, each feature once. The kernel adds them tile by
  tile, chunk by chunk, row by row and sixteen columns at a time, a column of the left half beside one of the right half;
  a reindexing puts them in the order rows and columns.
-/
module

public import proofs.«01_k».proof.Proof.Program
public import proofs.«01_k».proof.Proof.Words
public import Idealize.ShloMosaic.Lib.IdealHost
public import Idealize.ShloMosaic.Lib.ValueIdx
public import Idealize.ShloMosaic.Lib.Pipeline.ValueKit.Geometry

@[expose] public section

set_option maxRecDepth 16384

noncomputable section

namespace Cert.Proof

open Idealize.ShloMosaic Idealize.ShloMosaic.ValueIdx
open Cert.KernelIdeal Cert.KernelIdeal.Gen

/-! ## Sums over steps -/

/-- A measure that every step raises by its own amount is raised by the amounts' sum. -/
theorem upTo_sum {α M : Type} [AddCommMonoid M] {n : ℕ} (f : Fin n → α → α) (p : α → M) (c : ℕ → M)
    (h : ∀ (k : Fin n) (a : α), p (f k a) = p a + c k.val) (a : α) :
    ∀ k, k ≤ n → p (upTo f a k) = p a + ∑ j ∈ Finset.range k, c j
  | 0, _ => by rw [Finset.sum_range_zero, add_zero]; rfl
  | k + 1, hk => by
    rw [show upTo f a (k + 1) = f ⟨k, hk⟩ (upTo f a k) from upTo_succ f a ⟨k, hk⟩, h, upTo_sum f p c h a k (Nat.le_of_succ_le hk),
      Finset.sum_range_succ, add_assoc]

/-- `m · n` terms are `m` runs of `n` terms. -/
theorem sum_runs {M : Type} [AddCommMonoid M] (f : ℕ → M) (n : ℕ) :
    ∀ m, ∑ k ∈ Finset.range (m * n), f k = ∑ i ∈ Finset.range m, ∑ j ∈ Finset.range n, f (n * i + j)
  | 0 => by rw [Nat.zero_mul, Finset.sum_range_zero, Finset.sum_range_zero]
  | m + 1 => by
    rw [Nat.succ_mul, Finset.sum_range_add, sum_runs f n m, Finset.sum_range_succ, Nat.mul_comm n m]

/-! ## The terms -/

variable (vX : S16384x2048.Idx → EReal) (vI : S16384.Idx → BitVec 32) (vT : S2048x1024.Idx → BitVec 32)

/-- The feature in row `r`, column `c`. -/
def feat (r c : ℕ) : EReal := vX (ix2 ⟨r % 16384, Nat.mod_lt _ (by decide)⟩ ⟨c % 2048, Nat.mod_lt _ (by decide)⟩)

/-- The word of the table that holds column `c` and column `c + 1024` of the center of row `r`'s label. -/
def word (r c : ℕ) : BitVec 32 :=
  vT (ix2 ⟨(vI (ix1 ⟨r % 16384, Nat.mod_lt _ (by decide)⟩)).toNat % 2048, Nat.mod_lt _ (by decide)⟩ ⟨c % 1024, Nat.mod_lt _ (by decide)⟩)

/-- The square of a feature's distance from its center's entry. -/
def sq (r c : ℕ) : EReal := (feat vX r c - half (word vI vT r c) (c / 1024)) * (feat vX r c - half (word vI vT r c) (c / 1024))

/-- A column of the left half beside its column of the right half. -/
def pair (r c : ℕ) : EReal := sq vX vI vT r c + sq vX vI vT r (1024 + c)

/-! ## One accumulation -/

/-- One accumulation adds a left square and a right square to each lane. -/
theorem pay1_apply (a : FVec Ideal S16 .f32) (l r : Vec Ideal S1x16 .f32) (w : Vec Ideal S1x16 .i32) (j : Fin 16) :
    k0_pay1 (F := Ideal) a l r w (ix1 j)
      = a (ix1 j) + ((l (ix2 0 j) - half (w (ix2 0 j)) 0) * (l (ix2 0 j) - half (w (ix2 0 j)) 0)
        + (r (ix2 0 j) - half (w (ix2 0 j)) 1) * (r (ix2 0 j) - half (w (ix2 0 j)) 1)) := by
  have e : ∀ {α : Type} (v : S1x16.Idx → α), shapeCast S16 v shapeCasts_S1x16_S16 (ix1 j) = v (ix2 0 j) := by
    intro α v
    refine shapeCast_apply v _ _ _ ?_
    rw [Shape.rowMajor_val_two, Shape.rowMajor_val_one]
    show 0 * 16 + j.val = j.val
    omega
  rw [← ofBits_low, ← ofBits_high, ← e l, ← e r, ← e w]
  exact add_assoc _ _ _

/-- Lane `j` of the eight accumulators' sum. -/
def lane (j : Fin 16) (a : Acc Ideal) : EReal := total a (ix1 j)

theorem lane_zero (j : Fin 16) : lane j (zeroAcc (F := Ideal)) = 0 := by
  have h : lane j (zeroAcc (F := Ideal))
      = ((Ideal.ofBits .f32 0#32 + Ideal.ofBits .f32 0#32) + (Ideal.ofBits .f32 0#32 + Ideal.ofBits .f32 0#32))
        + ((Ideal.ofBits .f32 0#32 + Ideal.ofBits .f32 0#32) + (Ideal.ofBits .f32 0#32 + Ideal.ofBits .f32 0#32)) := rfl
  rw [h, Ideal.ofBits_zero_f32]
  simp only [add_zero]

/-- Eight sums added in the kernel's tree, where each has grown by an amount. -/
theorem tree_add {M : Type} [AddCommMonoid M] (a b : Fin 8 → M) :
    (((a 0 + b 0) + (a 1 + b 1)) + ((a 2 + b 2) + (a 3 + b 3))) + (((a 4 + b 4) + (a 5 + b 5)) + ((a 6 + b 6) + (a 7 + b 7)))
      = (((a 0 + a 1) + (a 2 + a 3)) + ((a 4 + a 5) + (a 6 + a 7))) + ∑ u, b u := by
  rw [Fin.sum_univ_eight]
  abel

/-- What a group adds to a lane. -/
theorem lane_group (vx : S8x2048.Idx → EReal) (vg : S8x1024.Idx → BitVec 32) (r : Fin k0_t2_loop.trips) (g : Fin k0_t3_loop.trips)
    (a : Acc Ideal) (j : Fin 16) (t : ℕ → EReal)
    (h : ∀ u : Fin 8, (xl (F := Ideal) vx r g u (ix2 0 j) - half (xw (F := Ideal) vg r g u (ix2 0 j)) 0)
          * (xl (F := Ideal) vx r g u (ix2 0 j) - half (xw (F := Ideal) vg r g u (ix2 0 j)) 0)
        + (xr (F := Ideal) vx r g u (ix2 0 j) - half (xw (F := Ideal) vg r g u (ix2 0 j)) 1)
          * (xr (F := Ideal) vx r g u (ix2 0 j) - half (xw (F := Ideal) vg r g u (ix2 0 j)) 1) = t u.val) :
    lane j (groupVal (F := Ideal) vx vg r g a) = lane j a + ∑ u ∈ Finset.range 8, t u := by
  rw [Finset.sum_range]
  have e : ∀ (u : Fin 8) (b : FVec Ideal S16 .f32),
      k0_pay1 (F := Ideal) b (xl (F := Ideal) vx r g u) (xr (F := Ideal) vx r g u) (xw (F := Ideal) vg r g u) (ix1 j) = b (ix1 j) + t u.val := by
    intro u b
    rw [pay1_apply, h u]
  obtain ⟨a0, a1, a2, a3, a4, a5, a6, a7⟩ := a
  have l : lane j (groupVal (F := Ideal) vx vg r g (a0, a1, a2, a3, a4, a5, a6, a7))
      = (((k0_pay1 (F := Ideal) a0 (xl (F := Ideal) vx r g 0) (xr (F := Ideal) vx r g 0) (xw (F := Ideal) vg r g 0) (ix1 j)
          + k0_pay1 (F := Ideal) a1 (xl (F := Ideal) vx r g 1) (xr (F := Ideal) vx r g 1) (xw (F := Ideal) vg r g 1) (ix1 j))
        + (k0_pay1 (F := Ideal) a2 (xl (F := Ideal) vx r g 2) (xr (F := Ideal) vx r g 2) (xw (F := Ideal) vg r g 2) (ix1 j)
          + k0_pay1 (F := Ideal) a3 (xl (F := Ideal) vx r g 3) (xr (F := Ideal) vx r g 3) (xw (F := Ideal) vg r g 3) (ix1 j)))
        + ((k0_pay1 (F := Ideal) a4 (xl (F := Ideal) vx r g 4) (xr (F := Ideal) vx r g 4) (xw (F := Ideal) vg r g 4) (ix1 j)
          + k0_pay1 (F := Ideal) a5 (xl (F := Ideal) vx r g 5) (xr (F := Ideal) vx r g 5) (xw (F := Ideal) vg r g 5) (ix1 j))
        + (k0_pay1 (F := Ideal) a6 (xl (F := Ideal) vx r g 6) (xr (F := Ideal) vx r g 6) (xw (F := Ideal) vg r g 6) (ix1 j)
          + k0_pay1 (F := Ideal) a7 (xl (F := Ideal) vx r g 7) (xr (F := Ideal) vx r g 7) (xw (F := Ideal) vg r g 7) (ix1 j)))) := rfl
  rw [l, e 0, e 1, e 2, e 3, e 4, e 5, e 6, e 7]
  exact tree_add (fun u : Fin 8 => (![a0, a1, a2, a3, a4, a5, a6, a7] u : FVec Ideal S16 .f32) (ix1 j)) (fun u : Fin 8 => t u.val)

/-! ## What the loads read -/

/-- A rectangle's index lies at its offset, in whatever form, and the index's own coordinate. -/
theorem emb_val {s : Shape} {off o : Fin s.rank → ℕ} (size : Fin s.rank → ℕ) (inb : ∀ a, off a + size a ≤ s.size a)
    (j : (Rect.unit off size inb).shape.Idx) (a : Fin s.rank) (h : off = o) : ((Rect.unit off size inb).emb j a : ℕ) = o a + (j a).val := by
  subst h
  exact ValueKit.rect_emb_unit_val _ _ _ _ _

/-- The row of the features where tile `i`'s chunk `n` begins. -/
abbrev chunkRow (i : grid0.Coords) (n : ℕ) : ℕ := 1024 * (i 1).val + 512 * (i 0).val + 8 * n

section Loads
variable (i : grid0.Coords) (n : Fin 64) (r : Fin k0_t2_loop.trips) (g : Fin k0_t3_loop.trips) (u : Fin 8) (j : Fin 16)

theorem trips2 : k0_t2_loop.trips = 8 := by decide
theorem trips3 : k0_t3_loop.trips = 8 := by decide

/-- The bounds of a load's coordinates. -/
theorem bounds : (i 0).val < 2 ∧ (i 1).val < 16 ∧ n.val < 64 ∧ r.val < 8 ∧ g.val < 8 ∧ u.val < 8 ∧ j.val < 16 :=
  ⟨(i 0).isLt, (i 1).isLt, n.isLt, trips2 ▸ r.isLt, trips3 ▸ g.isLt, u.isLt, j.isLt⟩

/-- A left load reads the features of its row and columns. -/
theorem xl_feat : xl (F := Ideal) (xRows (F := Ideal) vX (xOff i n) (xOff_inb i n)) r g u (ix2 0 j)
    = feat vX (chunkRow i n.val + r.val) (128 * g.val + 16 * u.val + j.val) := by
  have b := bounds i n r g u j
  refine congrArg vX (funext fun a => Fin.ext ?_)
  match a with
  | ⟨0, _⟩ =>
    refine (ValueKit.rect_emb_unit_val _ _ _ _ _).trans ?_
    refine (congrArg (_ + ·) (emb_val (s := S8x2048) _ _ _ _ (k0_off3_eq r g u))).trans ?_
    show chunkRow i n.val + (r.val + 0) = (chunkRow i n.val + r.val) % 16384
    rw [Nat.mod_eq_of_lt] <;> simp only [chunkRow] <;> omega
  | ⟨1, _⟩ =>
    refine (ValueKit.rect_emb_unit_val _ _ _ _ _).trans ?_
    refine (congrArg (_ + ·) (emb_val (s := S8x2048) _ _ _ _ (k0_off3_eq r g u))).trans ?_
    show 0 + (128 * g.val + 16 * u.val + j.val) = (128 * g.val + 16 * u.val + j.val) % 2048
    omega

/-- A right load reads the features of its row and columns, 1024 columns on. -/
theorem xr_feat : xr (F := Ideal) (xRows (F := Ideal) vX (xOff i n) (xOff_inb i n)) r g u (ix2 0 j)
    = feat vX (chunkRow i n.val + r.val) (1024 + (128 * g.val + 16 * u.val + j.val)) := by
  have b := bounds i n r g u j
  refine congrArg vX (funext fun a => Fin.ext ?_)
  match a with
  | ⟨0, _⟩ =>
    refine (ValueKit.rect_emb_unit_val _ _ _ _ _).trans ?_
    refine (congrArg (_ + ·) (emb_val (s := S8x2048) _ _ _ _ (k0_off4_eq r g u))).trans ?_
    show chunkRow i n.val + (r.val + 0) = (chunkRow i n.val + r.val) % 16384
    rw [Nat.mod_eq_of_lt] <;> simp only [chunkRow] <;> omega
  | ⟨1, _⟩ =>
    refine (ValueKit.rect_emb_unit_val _ _ _ _ _).trans ?_
    refine (congrArg (_ + ·) (emb_val (s := S8x2048) _ _ _ _ (k0_off4_eq r g u))).trans ?_
    show 0 + (128 * g.val + 16 * u.val + 1024 + j.val) = (1024 + (128 * g.val + 16 * u.val + j.val)) % 2048
    omega

/-- A load of the gathered words reads the words of its row's label and its columns. -/
theorem xw_word : xw (F := Ideal) (gRows (F := Ideal) vT (tileList (F := Ideal) vI i) (lOff n) (lOff_inb n)) r g u (ix2 0 j)
    = word vI vT (chunkRow i n.val + r.val) (128 * g.val + 16 * u.val + j.val) := by
  have b := bounds i n r g u j
  refine congrArg vT (funext fun a => Fin.ext ?_)
  match a with
  | ⟨0, _⟩ =>
    refine congrArg (fun y => (vI y).toNat % 2048) (funext fun a => Fin.ext ?_)
    match a with
    | ⟨0, _⟩ =>
      refine (ValueKit.rect_emb_unit_val _ _ _ _ _).trans ?_
      rw [ValueKit.rect_emb_unit_val, k0_off1_eq]
      show 1024 * (i 1).val + 512 * (i 0).val + (8 * n.val + ((Rect.unit (s := S8x1024) (k0_off5 r g (BitVec.ofNat 32 u.val)) S1x16.size _).emb (ix2 0 j) 0).val)
        = (chunkRow i n.val + r.val) % 16384
      refine (congrArg (fun k => 1024 * (i 1).val + 512 * (i 0).val + (8 * n.val + k)) (emb_val (s := S8x1024) _ _ _ _ (k0_off5_eq r g u))).trans ?_
      show 1024 * (i 1).val + 512 * (i 0).val + (8 * n.val + (r.val + 0)) = (chunkRow i n.val + r.val) % 16384
      rw [Nat.mod_eq_of_lt] <;> simp only [chunkRow] <;> omega
  | ⟨1, _⟩ =>
    refine (ValueKit.rect_emb_unit_val _ _ _ _ _).trans ?_
    refine (congrArg (· + j.val) (congrFun (k0_off5_eq r g u) 1)).trans ?_
    show 128 * g.val + 16 * u.val + j.val = (128 * g.val + 16 * u.val + j.val) % 1024
    omega

end Loads

/-! ## A tile's lanes -/

/-- Chunk `n` adds its eight rows' terms to each lane. -/
theorem lane_chunk (i : grid0.Coords) (n : Fin 64) (a : Acc Ideal) (j : Fin 16) :
    lane j (chunkStep (F := Ideal) vX vT (tileList (F := Ideal) vI i) i n a)
      = lane j a + ∑ r ∈ Finset.range 8, ∑ g ∈ Finset.range 8, ∑ u ∈ Finset.range 8,
          pair vX vI vT (chunkRow i n.val + r) (128 * g + 16 * u + j.val) := by
  have hg : ∀ (r : Fin k0_t2_loop.trips) (g : Fin k0_t3_loop.trips) (a : Acc Ideal), lane j (groupVal (F := Ideal)
      (xRows (F := Ideal) vX (xOff i n) (xOff_inb i n)) (gRows (F := Ideal) vT (tileList (F := Ideal) vI i) (lOff n) (lOff_inb n)) r g a)
        = lane j a + ∑ u ∈ Finset.range 8, pair vX vI vT (chunkRow i n.val + r.val) (128 * g.val + 16 * u + j.val) := by
    intro r g a
    refine lane_group _ _ r g a j (fun u => pair vX vI vT (chunkRow i n.val + r.val) (128 * g.val + 16 * u + j.val)) fun u => ?_
    have b := bounds i n r g u j
    rw [xl_feat, xr_feat, xw_word]
    have e0 : (128 * g.val + 16 * u.val + j.val) / 1024 = 0 := by omega
    have e1 : (1024 + (128 * g.val + 16 * u.val + j.val)) / 1024 = 1 := by omega
    have e2 : word vI vT (chunkRow i n.val + r.val) (1024 + (128 * g.val + 16 * u.val + j.val))
        = word vI vT (chunkRow i n.val + r.val) (128 * g.val + 16 * u.val + j.val) := by
      unfold word
      simp only [Nat.add_mod_left]
    show _ = pair vX vI vT (chunkRow i n.val + r.val) (128 * g.val + 16 * u.val + j.val)
    unfold pair sq
    rw [e0, e1, e2]
  have hr : ∀ (r : Fin k0_t2_loop.trips) (a : Acc Ideal), lane j (rowVal (F := Ideal)
      (xRows (F := Ideal) vX (xOff i n) (xOff_inb i n)) (gRows (F := Ideal) vT (tileList (F := Ideal) vI i) (lOff n) (lOff_inb n)) r a)
        = lane j a + ∑ g ∈ Finset.range 8, ∑ u ∈ Finset.range 8,
            pair vX vI vT (chunkRow i n.val + r.val) (128 * g + 16 * u + j.val) := by
    intro r a
    refine (upTo_sum _ (lane j) (fun g => ∑ u ∈ Finset.range 8, pair vX vI vT (chunkRow i n.val + r.val) (128 * g + 16 * u + j.val))
      (hg r) a _ le_rfl).trans ?_
    exact congrArg (lane j a + ·) (Finset.sum_congr (congrArg Finset.range trips3) fun _ _ => rfl)
  refine (upTo_sum _ (lane j) (fun r => ∑ g ∈ Finset.range 8, ∑ u ∈ Finset.range 8,
    pair vX vI vT (chunkRow i n.val + r) (128 * g + 16 * u + j.val)) hr a _ le_rfl).trans ?_
  rw [trips2]

/-- A tile's lane is the sum of its 512 rows' terms in the lane's columns. -/
theorem tileOut_sum (i : grid0.Coords) (j : Fin 16) :
    tileOut (F := Ideal) vX vI vT i (ix1 j)
      = ∑ n ∈ Finset.range 64, ∑ r ∈ Finset.range 8, ∑ g ∈ Finset.range 8, ∑ u ∈ Finset.range 8,
          pair vX vI vT (chunkRow i n + r) (128 * g + 16 * u + j.val) := by
  refine (upTo_sum _ (lane j) (fun n => ∑ r ∈ Finset.range 8, ∑ g ∈ Finset.range 8, ∑ u ∈ Finset.range 8,
    pair vX vI vT (chunkRow i n + r) (128 * g + 16 * u + j.val)) (fun n a => lane_chunk vX vI vT i n a j) _ 64 le_rfl).trans ?_
  rw [lane_zero, zero_add]

/-! ## All of them -/

/-- All the squares, row by row. -/
def squares : EReal := ∑ r ∈ Finset.range 16384, ∑ c ∈ Finset.range 2048, sq vX vI vT r c

/-- The squares in the kernel's order. -/
theorem squares_eq : squares vX vI vT
    = ∑ w ∈ Finset.range 32, ∑ n ∈ Finset.range 64, ∑ r ∈ Finset.range 8, ∑ g ∈ Finset.range 8, ∑ u ∈ Finset.range 8,
        ∑ j ∈ Finset.range 16, pair vX vI vT (512 * w + 8 * n + r) (128 * g + 16 * u + j) := by
  have hc : ∀ r, ∑ c ∈ Finset.range 2048, sq vX vI vT r c
      = ∑ g ∈ Finset.range 8, ∑ u ∈ Finset.range 8, ∑ j ∈ Finset.range 16, pair vX vI vT r (128 * g + 16 * u + j) := by
    intro r
    rw [show (2048 : ℕ) = 1024 + 1024 from rfl, Finset.sum_range_add, ← Finset.sum_add_distrib]
    rw [show (1024 : ℕ) = 8 * 128 from rfl, sum_runs _ 128 8]
    refine Finset.sum_congr rfl fun g _ => ?_
    rw [show (128 : ℕ) = 8 * 16 from rfl, sum_runs _ 16 8]
    refine Finset.sum_congr rfl fun u _ => Finset.sum_congr rfl fun j _ => ?_
    rw [← Nat.add_assoc]
    rfl
  unfold squares
  rw [show (16384 : ℕ) = 32 * 512 from rfl, sum_runs _ 512 32]
  refine Finset.sum_congr rfl fun w _ => ?_
  rw [show Finset.range 512 = Finset.range (64 * 8) from rfl, sum_runs _ 8 64]
  refine Finset.sum_congr rfl fun n _ => Finset.sum_congr rfl fun r _ => ?_
  rw [hc, ← Nat.add_assoc]

/-- The partial sums add up to all the squares. -/
theorem partials_sum : ∑ y, partials (F := Ideal) vX vI vT y = squares vX vI vT := by
  rw [squares_eq, sum_idx2, Finset.sum_range]
  refine Finset.sum_congr rfl fun w _ => ?_
  have e : ∀ j : Fin 16, partials (F := Ideal) vX vI vT (ix2 w j)
      = ∑ n ∈ Finset.range 64, ∑ r ∈ Finset.range 8, ∑ g ∈ Finset.range 8, ∑ u ∈ Finset.range 8,
          pair vX vI vT (512 * w.val + 8 * n + r) (128 * g + 16 * u + j.val) := by
    intro j
    refine (tileOut_sum vX vI vT _ j).trans ?_
    have hw : ∀ n, chunkRow (coordsV ⟨w.val % 2, Nat.mod_lt _ (by decide)⟩ ⟨w.val / 2, Nat.div_lt_of_lt_mul w.isLt⟩) n = 512 * w.val + 8 * n := by
      intro n
      show 1024 * (w.val / 2) + 512 * (w.val % 2) + 8 * n = _
      omega
    refine Finset.sum_congr rfl fun n _ => ?_
    rw [← hw n]
  rw [Finset.sum_congr rfl fun j _ => e j, ← Finset.sum_range fun j => ∑ n ∈ Finset.range 64, ∑ r ∈ Finset.range 8,
    ∑ g ∈ Finset.range 8, ∑ u ∈ Finset.range 8, pair vX vI vT (512 * w.val + 8 * n + r) (128 * g + 16 * u + j)]
  rw [Finset.sum_comm]
  refine Finset.sum_congr rfl fun n _ => ?_
  rw [Finset.sum_comm]
  refine Finset.sum_congr rfl fun r _ => ?_
  rw [Finset.sum_comm]
  refine Finset.sum_congr rfl fun g _ => ?_
  rw [Finset.sum_comm]

/-- The kernel's result: the squares' sum over the number of rows. -/
theorem resultOf_eq (j : S_.Idx) : resultOf (F := Ideal) (partials (F := Ideal) vX vI vT) j
    = Ideal.div (squares vX vI vT) (Ideal.ofBits .f32 0x46800000#32) := by
  unfold resultOf
  rw [hostDivf_apply, hostReduceAdd_apply, Ideal.hostReduceAdd_total _ (fun b => b.elim0), partials_sum]
  show Ideal.div (Ideal.ofBits .f32 0#32 + _) _ = _
  rw [Ideal.ofBits_zero_f32, zero_add]
  rfl

end Cert.Proof

end
-- ==== Proof.Reference.lean ====
/-
  What the reference computes at the ideal reading, for labels that name a row of the table: the same sum of squares over
  the number of rows. Its bounds test passes for every label, its gather reads the label's row, its table of centers reads
  the packed words' halves, and the square of a norm is the sum of squares, a number that is not negative.
-/
module

public import proofs.«01_k».proof.Proof.Sums
public import proofs.«01_k».proof.Proof.Frames
public import Idealize.ShloMosaic.Lib.BitcastConvert
public import Idealize.ShloMosaic.Lib.Routing.Ops

@[expose] public section

set_option maxRecDepth 16384

noncomputable section

namespace Cert.Proof

open Idealize.ShloMosaic Idealize.ShloMosaic.ValueIdx
open Cert.ReferenceIdeal Cert.ReferenceIdeal.Gen

/-! ## Squares and roots -/

/-- A square is not negative. -/
theorem square_nonneg (x : EReal) : 0 ≤ x * x := by
  induction x with
  | bot => simp
  | coe r => rw [← EReal.coe_mul]; exact EReal.coe_nonneg.mpr (mul_self_nonneg r)
  | top => simp

/-- The square of the root of a number that is not negative is the number. -/
theorem sqrt_square (x : EReal) (h : 0 ≤ x) : Ideal.sqrt x * Ideal.sqrt x = x := by
  induction x with
  | bot => exact absurd h (by simp)
  | coe r =>
    have hr : 0 ≤ r := EReal.coe_nonneg.mp h
    rw [Ideal.sqrt_coe, if_neg (not_lt.mpr hr), ← EReal.coe_mul, Real.mul_self_sqrt hr]
  | top => simp

/-! ## The reference's steps -/

variable (vX : S16384x2048.Idx → EReal) (vI : S16384.Idx → BitVec 32) (vT : S2048x1024.Idx → BitVec 32)

/-- The labels as a column, a negative one counted from the table's end. -/
def labels : IVec S16384x1 32 :=
  broadcastInDim S16384x1 ![0] bcast_S16384_S16384x1_0
    (select (cmpi .slt vI (broadcastInDim S16384 ![] bcast_S_S16384 (constantI S_ 32 0#32)))
      (addi vI (broadcastInDim S16384 ![] bcast_S_S16384 (constantI S_ 32 2048#32))) vI)

/-- Whether each label names a row of the table. -/
def valid : IVec S16384 1 :=
  Host.reduce IntOp.andi
    (andi (cmpi .sge (labels vI) (broadcastInDim S16384x1 ![] bcast_S_S16384x1 (constantI S_ 32 0#32)))
      (cmpi .sle (labels vI) (broadcastInDim S16384x1 ![0, 1] bcast_S1x1_S16384x1_0_1
        (broadcastInDim S1x1 ![1] bcast_S1_S1x1_1 (constantI S1 32 2047#32)))))
    (constantI S_ 1 1#1) reducesTo_S16384x1_S16384_d1 h_S_

/-- The table of centers, unpacked. -/
def centers : FVec Ideal S2048x2048 .f32 :=
  extf .f32 (shapeCast _ (transpose S2048x2x1024 [0, 2, 1] (bitcastToFloat (F := Ideal) .bf16
    (Host.bitcastConvertNarrow S2048x1024x2 16 vT splits_S2048x1024_w32_S2048x1024x2_w16))
    transposes_S2048x1024x2_S2048x2x1024_0_2_1) shapeCasts_S2048x2x1024_S2048x2048) bitsLt_bf16_f32

/-- The features less their centers. -/
def diffs : FVec Ideal S16384x2048 .f32 :=
  subf vX (select (broadcastInDim S16384x2048 ![0] bcast_S16384_S16384x2048_0 (valid vI))
    (Host.gather gather_S2048x2048_S16384x1_S16384x2048_1_0_n_n_0_1_12048 (centers vT) (labels vI))
    (broadcastInDim S16384x2048 ![] bcast_S_S16384x2048 (constant S_ .f32 0x7FC00000#32)))

/-- The sum of the squares, as the reference spells it. -/
def sumR : FVec Ideal S_ .f32 :=
  Host.reduceAdd (mulf (diffs vX vI vT) (diffs vX vI vT)) (constant S_ .f32 0x00000000#32) reducesTo_S16384x2048_S_d0_1 h_S_

/-! ## What each step reads -/

/-- Column `c` of center `k` is the half `c / 1024` of word `c % 1024` of row `k`. -/
theorem centers_apply (k c : Fin 2048) :
    centers vT (ix2 k c) = half (vT (ix2 k ⟨c.val % 1024, Nat.mod_lt _ (by decide)⟩)) (c.val / 1024) := by
  have hc := c.isLt
  unfold centers
  rw [extf_apply]
  refine (shapeCast_apply _ _ _ (ix3 k (⟨c.val / 1024, by omega⟩ : Fin 2) (⟨c.val % 1024, Nat.mod_lt _ (by decide)⟩ : Fin 1024)) ?_).trans ?_
  · rw [Shape.rowMajor_val_three, Shape.rowMajor_val_two]
    show (k.val * 2 + c.val / 1024) * 1024 + c.val % 1024 = k.val * 2048 + c.val
    omega
  refine (transpose_apply _ _ _ _ (ix3 k (⟨c.val % 1024, Nat.mod_lt _ (by decide)⟩ : Fin 1024) (⟨c.val / 1024, by omega⟩ : Fin 2)) ?_).trans ?_
  · intro b
    match b with
    | ⟨0, _⟩ => rfl
    | ⟨1, _⟩ => rfl
    | ⟨2, _⟩ => rfl
  show Ideal.ofBits .bf16 _ = _
  rw [Host.bitcastConvertNarrow_apply]
  unfold half
  refine congrArg (fun y => Ideal.ofBits .bf16 ((vT y).extractLsb' (c.val / 1024 * 16) 16)) (funext fun a => Fin.ext ?_)
  match a with
  | ⟨0, _⟩ => rfl
  | ⟨1, _⟩ => rfl

section InRange

variable (hI : ∀ j, (vI j).toNat < 2048)
include hI

/-- A label that names a row of the table is not negative. -/
theorem label_nonneg (j : S16384.Idx) : IntOp.cmpi .slt (vI j) 0#32 = 0#1 := by
  have h := hI j
  show BitVec.ofBool ((vI j).slt 0#32) = 0#1
  have : (vI j).slt 0#32 = false := by
    rw [BitVec.slt_eq_decide, decide_eq_false_iff_not, BitVec.toInt_eq_toNat_cond]
    have hz : (0#32 : BitVec 32).toInt = 0 := by decide
    split <;> omega
  rw [this]
  rfl

/-- The column of labels holds the labels. -/
theorem labels_apply (r : Fin 16384) (z : Fin 1) : labels vI (ix2 r z) = vI (ix1 r) := by
  unfold labels
  refine (broadcastInDim_apply _ _ _ _ (ix1 r) ?_).trans ?_
  · intro a
    match a with
    | ⟨0, _⟩ => rfl
  show (if IntOp.cmpi .slt (vI (ix1 r)) _ = 1#1 then _ else _) = _
  refine if_neg ?_
  rw [broadcastInDim_scalar_apply]
  show ¬ IntOp.cmpi .slt (vI (ix1 r)) 0#32 = 1#1
  rw [label_nonneg vI hI]
  decide

omit hI in
/-- The bounds test passes. -/
theorem in_bounds (w : BitVec 32) (h : w.toNat < 2048) : IntOp.andi (IntOp.cmpi .sge w 0#32) (IntOp.cmpi .sle w 2047#32) = 1#1 := by
  have a : (0#32).sle w = true := by
    rw [BitVec.sle_eq_decide, decide_eq_true_eq, BitVec.toInt_eq_toNat_cond w]
    have hz : (0#32 : BitVec 32).toInt = 0 := by decide
    split <;> omega
  have b : w.sle 2047#32 = true := by
    rw [BitVec.sle_eq_decide, decide_eq_true_eq, BitVec.toInt_eq_toNat_cond w]
    have hz : (2047#32 : BitVec 32).toInt = 2047 := by decide
    split <;> omega
  show BitVec.ofBool ((0#32).sle w) &&& BitVec.ofBool (w.sle 2047#32) = 1#1
  rw [a, b]
  rfl

/-- Every label names a row of the table. -/
theorem valid_apply (j : S16384.Idx) : valid vI j = 1#1 := by
  unfold valid
  rw [Host.reduce_eq_fold]
  have ones : ∀ (S : Finset S16384x1.Idx) (f : S16384x1.Idx → BitVec 1), (∀ i, f i = 1#1) → S.fold IntOp.andi 1#1 f = 1#1 := by
    intro S f hf
    induction S using Finset.induction_on with
    | empty => rfl
    | insert a S ha ih => rw [Finset.fold_insert ha, ih, hf a]; rfl
  refine ones _ _ fun i => ?_
  obtain ⟨r, z, rfl⟩ : ∃ (r : Fin 16384) (z : Fin 1), i = ix2 r z := ⟨i 0, i 1, eq_ix2 i⟩
  show IntOp.andi (IntOp.cmpi .sge (labels vI _) 0#32) (IntOp.cmpi .sle (labels vI _) 2047#32) = 1#1
  rw [labels_apply vI hI]
  exact in_bounds _ (hI _)

/-- The difference in row `r`, column `c`. -/
theorem diffs_apply (r : Fin 16384) (c : Fin 2048) :
    diffs vX vI vT (ix2 r c) = feat vX r.val c.val - half (word vI vT r.val c.val) (c.val / 1024) := by
  unfold diffs
  rw [subf_apply]
  have hm : broadcastInDim S16384x2048 ![0] bcast_S16384_S16384x2048_0 (valid vI) (ix2 r c) = 1#1 := valid_apply vI hI _
  have hr : r.val % 16384 = r.val := Nat.mod_eq_of_lt r.isLt
  have hc : c.val % 2048 = c.val := Nat.mod_eq_of_lt c.isLt
  refine congrArg₂ (fun x y : EReal => x - y) ?_ ?_
  · unfold feat
    simp only [hr, hc]
  · have hs : ∀ (p : IVec S16384x2048 1) (x y : FVec Ideal S16384x2048 .f32), p (ix2 r c) = 1#1 → select p x y (ix2 r c) = x (ix2 r c) :=
      fun p x y h => if_pos h
    rw [hs _ _ _ hm]
    rw [Routing.gather_row gather_S2048x2048_S16384x1_S16384x2048_1_0_n_n_0_1_12048 rfl rfl rfl rfl rfl (centers vT) (labels vI) r c
      (⟨(vI (ix1 r)).toNat, hI _⟩ : Fin 2048) ((labels_apply vI hI r 0).trans (by simp)) (by decide), centers_apply]
    unfold word
    simp only [hr, Nat.mod_eq_of_lt (hI (ix1 r))]

/-- The reference's sum is the sum of all the squares. -/
theorem sumR_eq (j : S_.Idx) : sumR vX vI vT j = squares vX vI vT := by
  unfold sumR squares
  rw [hostReduceAdd_apply, Ideal.hostReduceAdd_total _ (fun b => b.elim0), sum_idx2]
  show Ideal.ofBits .f32 0#32 + _ = _
  rw [Ideal.ofBits_zero_f32, zero_add, Finset.sum_range]
  refine Finset.sum_congr rfl fun r _ => ?_
  rw [Finset.sum_range]
  refine Finset.sum_congr rfl fun c _ => ?_
  rw [mulf_apply, diffs_apply vX vI vT hI]
  rfl

end InRange

/-- The sum of all the squares is not negative. -/
theorem squares_nonneg : 0 ≤ squares vX vI vT :=
  Finset.sum_nonneg fun _ _ => Finset.sum_nonneg fun _ _ => square_nonneg _

/-- The reference's result, of its arguments. -/
def refOut : FVec Ideal S_ .f32 :=
  Host.divf (mulf (Host.sqrt (sumR vX vI vT)) (Host.sqrt (sumR vX vI vT))) (constant S_ .f32 0x46800000#32)

/-- The reference's result: the squares' sum over the number of rows. -/
theorem refOut_eq (hI : ∀ j, (vI j).toNat < 2048) (j : S_.Idx) :
    refOut vX vI vT j = Ideal.div (squares vX vI vT) (Ideal.ofBits .f32 0x46800000#32) := by
  unfold refOut
  rw [hostDivf_apply, mulf_apply]
  have e : Host.sqrt (sumR vX vI vT) j = Ideal.sqrt (squares vX vI vT) := by
    have hs : ∀ v : FVec Ideal S_ .f32, Host.sqrt v j = Ideal.sqrt (v j) := fun v => rfl
    rw [hs, sumR_eq vX vI vT hI j]
  rw [e, sqrt_square _ (squares_nonneg vX vI vT)]
  rfl

/-- The run's result is that function of the arguments. -/
theorem res_eq (m : (ℓ : Loc nD τ sig) → Buf (Elt Ideal) ℓ) (c : Dev nD) :
    Cert.ReferenceIdeal.Value.res_out0 (F := Ideal) m c
      = refOut (m ((c.tc : Thread nD τ).loc main_arg0)) (m ((c.tc : Thread nD τ).loc main_arg1)) (m ((c.tc : Thread nD τ).loc main_arg2)) := rfl

end Cert.Proof

end
-- ==== Proof.Algebraic.lean ====
/-
  The value: at the ideal reading the kernel's result is the reference's, the squares' sum over the number of rows.
-/
module

public import proofs.«01_k».proof.Defs
public import proofs.«01_k».proof.Proof.Reference

@[expose] public section

set_option maxRecDepth 16384

noncomputable section

namespace Cert.Proof

open Idealize.ShloMosaic Idealize.SL.Sem

/-- From arguments that agree, where every label names a row of the table, the kernel and the reference end with the same
    result, each with its arguments unchanged. -/
theorem algebraic : Cert.algebraic_KernelIdeal_ReferenceIdeal := by
  intro m g m' g' hpre hargs
  have hok := ok_kernelIdeal m hpre
  refine ⟨fun c => resultOf (outOf (F := Ideal) m c), ?_, ?_⟩
  · exact (θ_run Cert.KernelIdeal.defs _ _).mono (fun _ h => h.1) (run_main (F := Ideal) m g hok)
  · refine (θ_run Cert.ReferenceIdeal.defs _ _).mono (fun r h c => ⟨(h c).1.trans ?_, (h c).2⟩)
      (Cert.ReferenceIdeal.Value.run (F := Ideal) m' g')
    obtain ⟨hx, hi, ht⟩ := hargs c
    refine (res_eq m' c).trans ?_
    rw [hx, hi, ht]
    funext j
    exact (refOut_eq _ _ _ (hok c) j).trans (resultOf_eq _ _ _ j).symm

end Cert.Proof

end
-- ==== Proof.lean ====
/-
  The certificate: the witnesses of the programs' stated facts, and the claims, each proved in Proof/.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_in_range.Gen.facts,
  frame_kernel, frame_kernelIdeal, frame_referenceIdeal, trivial, algebraic⟩

end Cert.Proof

end
